-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_RefAttIdeal (m : (ℓ : Loc Cert.RefAttIdeal.nD Cert.RefAttIdeal.τ Cert.RefAttIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_RefAdaIdeal (m : (ℓ : Loc Cert.RefAdaIdeal.nD Cert.RefAdaIdeal.τ Cert.RefAdaIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_RefInprojIdeal (m : (ℓ : Loc Cert.RefInprojIdeal.nD Cert.RefInprojIdeal.τ Cert.RefInprojIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_RefOutprojIdeal (m : (ℓ : Loc Cert.RefOutprojIdeal.nD Cert.RefOutprojIdeal.τ Cert.RefOutprojIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_RefAttIdeal [hRefAttIdeal : Cert.RefAttIdeal.Facts] : Prop :=
  ∀ (m : (ℓ : Loc Cert.RefAttIdeal.nD Cert.RefAttIdeal.τ Cert.RefAttIdeal.sig) → Buf (Elt Ideal) ℓ) (g : Dev Cert.RefAttIdeal.nD → PrngReg), Pre_RefAttIdeal m →
    θ_run (Cert.RefAttIdeal.defs (F := Ideal)) (onTc (τ := Cert.RefAttIdeal.τ) (Cert.RefAttIdeal.main (F := Ideal))) ⟨m, fun _ => 0, g⟩ (fun r => (∀ c : Dev Cert.RefAttIdeal.nD,
      r.2.mem ((c.tc : Thread Cert.RefAttIdeal.nD Cert.RefAttIdeal.τ).loc Cert.RefAttIdeal.main_arg0) = m ((c.tc : Thread Cert.RefAttIdeal.nD Cert.RefAttIdeal.τ).loc Cert.RefAttIdeal.main_arg0)
      ∧ r.2.mem ((c.tc : Thread Cert.RefAttIdeal.nD Cert.RefAttIdeal.τ).loc Cert.RefAttIdeal.main_arg1) = m ((c.tc : Thread Cert.RefAttIdeal.nD Cert.RefAttIdeal.τ).loc Cert.RefAttIdeal.main_arg1)
      ∧ r.2.mem ((c.tc : Thread Cert.RefAttIdeal.nD Cert.RefAttIdeal.τ).loc Cert.RefAttIdeal.main_arg2) = m ((c.tc : Thread Cert.RefAttIdeal.nD Cert.RefAttIdeal.τ).loc Cert.RefAttIdeal.main_arg2)
      ∧ r.2.mem ((c.tc : Thread Cert.RefAttIdeal.nD Cert.RefAttIdeal.τ).loc Cert.RefAttIdeal.main_arg3) = m ((c.tc : Thread Cert.RefAttIdeal.nD Cert.RefAttIdeal.τ).loc Cert.RefAttIdeal.main_arg3)
      ∧ r.2.mem ((c.tc : Thread Cert.RefAttIdeal.nD Cert.RefAttIdeal.τ).loc Cert.RefAttIdeal.main_arg4) = m ((c.tc : Thread Cert.RefAttIdeal.nD Cert.RefAttIdeal.τ).loc Cert.RefAttIdeal.main_arg4)
      ∧ r.2.mem ((c.tc : Thread Cert.RefAttIdeal.nD Cert.RefAttIdeal.τ).loc Cert.RefAttIdeal.main_arg5) = m ((c.tc : Thread Cert.RefAttIdeal.nD Cert.RefAttIdeal.τ).loc Cert.RefAttIdeal.main_arg5)
      ∧ r.2.mem ((c.tc : Thread Cert.RefAttIdeal.nD Cert.RefAttIdeal.τ).loc Cert.RefAttIdeal.main_arg6) = m ((c.tc : Thread Cert.RefAttIdeal.nD Cert.RefAttIdeal.τ).loc Cert.RefAttIdeal.main_arg6)
      ∧ r.2.mem ((c.tc : Thread Cert.RefAttIdeal.nD Cert.RefAttIdeal.τ).loc Cert.RefAttIdeal.main_arg7) = m ((c.tc : Thread Cert.RefAttIdeal.nD Cert.RefAttIdeal.τ).loc Cert.RefAttIdeal.main_arg7)
      ∧ r.2.mem ((c.tc : Thread Cert.RefAttIdeal.nD Cert.RefAttIdeal.τ).loc Cert.RefAttIdeal.main_arg8) = m ((c.tc : Thread Cert.RefAttIdeal.nD Cert.RefAttIdeal.τ).loc Cert.RefAttIdeal.main_arg8))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_RefAdaIdeal [hRefAdaIdeal : Cert.RefAdaIdeal.Facts] : Prop :=
  ∀ (m : (ℓ : Loc Cert.RefAdaIdeal.nD Cert.RefAdaIdeal.τ Cert.RefAdaIdeal.sig) → Buf (Elt Ideal) ℓ) (g : Dev Cert.RefAdaIdeal.nD → PrngReg), Pre_RefAdaIdeal m →
    θ_run (Cert.RefAdaIdeal.defs (F := Ideal)) (onTc (τ := Cert.RefAdaIdeal.τ) (Cert.RefAdaIdeal.main (F := Ideal))) ⟨m, fun _ => 0, g⟩ (fun r => (∀ c : Dev Cert.RefAdaIdeal.nD,
      r.2.mem ((c.tc : Thread Cert.RefAdaIdeal.nD Cert.RefAdaIdeal.τ).loc Cert.RefAdaIdeal.main_arg0) = m ((c.tc : Thread Cert.RefAdaIdeal.nD Cert.RefAdaIdeal.τ).loc Cert.RefAdaIdeal.main_arg0)
      ∧ r.2.mem ((c.tc : Thread Cert.RefAdaIdeal.nD Cert.RefAdaIdeal.τ).loc Cert.RefAdaIdeal.main_arg1) = m ((c.tc : Thread Cert.RefAdaIdeal.nD Cert.RefAdaIdeal.τ).loc Cert.RefAdaIdeal.main_arg1)
      ∧ r.2.mem ((c.tc : Thread Cert.RefAdaIdeal.nD Cert.RefAdaIdeal.τ).loc Cert.RefAdaIdeal.main_arg2) = m ((c.tc : Thread Cert.RefAdaIdeal.nD Cert.RefAdaIdeal.τ).loc Cert.RefAdaIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_RefInprojIdeal [hRefInprojIdeal : Cert.RefInprojIdeal.Facts] : Prop :=
  ∀ (m : (ℓ : Loc Cert.RefInprojIdeal.nD Cert.RefInprojIdeal.τ Cert.RefInprojIdeal.sig) → Buf (Elt Ideal) ℓ) (g : Dev Cert.RefInprojIdeal.nD → PrngReg), Pre_RefInprojIdeal m →
    θ_run (Cert.RefInprojIdeal.defs (F := Ideal)) (onTc (τ := Cert.RefInprojIdeal.τ) (Cert.RefInprojIdeal.main (F := Ideal))) ⟨m, fun _ => 0, g⟩ (fun r => (∀ c : Dev Cert.RefInprojIdeal.nD,
      r.2.mem ((c.tc : Thread Cert.RefInprojIdeal.nD Cert.RefInprojIdeal.τ).loc Cert.RefInprojIdeal.main_arg0) = m ((c.tc : Thread Cert.RefInprojIdeal.nD Cert.RefInprojIdeal.τ).loc Cert.RefInprojIdeal.main_arg0)
      ∧ r.2.mem ((c.tc : Thread Cert.RefInprojIdeal.nD Cert.RefInprojIdeal.τ).loc Cert.RefInprojIdeal.main_arg1) = m ((c.tc : Thread Cert.RefInprojIdeal.nD Cert.RefInprojIdeal.τ).loc Cert.RefInprojIdeal.main_arg1)
      ∧ r.2.mem ((c.tc : Thread Cert.RefInprojIdeal.nD Cert.RefInprojIdeal.τ).loc Cert.RefInprojIdeal.main_arg2) = m ((c.tc : Thread Cert.RefInprojIdeal.nD Cert.RefInprojIdeal.τ).loc Cert.RefInprojIdeal.main_arg2))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ r.2.sem = fun _ => 0)

def quiescent_RefOutprojIdeal [hRefOutprojIdeal : Cert.RefOutprojIdeal.Facts] : Prop :=
  ∀ (m : (ℓ : Loc Cert.RefOutprojIdeal.nD Cert.RefOutprojIdeal.τ Cert.RefOutprojIdeal.sig) → Buf (Elt Ideal) ℓ) (g : Dev Cert.RefOutprojIdeal.nD → PrngReg), Pre_RefOutprojIdeal m →
    θ_run (Cert.RefOutprojIdeal.defs (F := Ideal)) (onTc (τ := Cert.RefOutprojIdeal.τ) (Cert.RefOutprojIdeal.main (F := Ideal))) ⟨m, fun _ => 0, g⟩ (fun r => (∀ c : Dev Cert.RefOutprojIdeal.nD,
      r.2.mem ((c.tc : Thread Cert.RefOutprojIdeal.nD Cert.RefOutprojIdeal.τ).loc Cert.RefOutprojIdeal.main_arg0) = m ((c.tc : Thread Cert.RefOutprojIdeal.nD Cert.RefOutprojIdeal.τ).loc Cert.RefOutprojIdeal.main_arg0)
      ∧ r.2.mem ((c.tc : Thread Cert.RefOutprojIdeal.nD Cert.RefOutprojIdeal.τ).loc Cert.RefOutprojIdeal.main_arg1) = m ((c.tc : Thread Cert.RefOutprojIdeal.nD Cert.RefOutprojIdeal.τ).loc Cert.RefOutprojIdeal.main_arg1)
      ∧ r.2.mem ((c.tc : Thread Cert.RefOutprojIdeal.nD Cert.RefOutprojIdeal.τ).loc Cert.RefOutprojIdeal.main_arg2) = m ((c.tc : Thread Cert.RefOutprojIdeal.nD Cert.RefOutprojIdeal.τ).loc Cert.RefOutprojIdeal.main_arg2)
      ∧ r.2.mem ((c.tc : Thread Cert.RefOutprojIdeal.nD Cert.RefOutprojIdeal.τ).loc Cert.RefOutprojIdeal.main_arg3) = m ((c.tc : Thread Cert.RefOutprojIdeal.nD Cert.RefOutprojIdeal.τ).loc Cert.RefOutprojIdeal.main_arg3)
      ∧ r.2.mem ((c.tc : Thread Cert.RefOutprojIdeal.nD Cert.RefOutprojIdeal.τ).loc Cert.RefOutprojIdeal.main_arg4) = m ((c.tc : Thread Cert.RefOutprojIdeal.nD Cert.RefOutprojIdeal.τ).loc Cert.RefOutprojIdeal.main_arg4)
      ∧ r.2.mem ((c.tc : Thread Cert.RefOutprojIdeal.nD Cert.RefOutprojIdeal.τ).loc Cert.RefOutprojIdeal.main_arg5) = m ((c.tc : Thread Cert.RefOutprojIdeal.nD Cert.RefOutprojIdeal.τ).loc Cert.RefOutprojIdeal.main_arg5)
      ∧ r.2.mem ((c.tc : Thread Cert.RefOutprojIdeal.nD Cert.RefOutprojIdeal.τ).loc Cert.RefOutprojIdeal.main_arg6) = m ((c.tc : Thread Cert.RefOutprojIdeal.nD Cert.RefOutprojIdeal.τ).loc Cert.RefOutprojIdeal.main_arg6))
      ∧ r.2.sem = fun _ => 0)

def preserves_Kernel_KernelIdeal : Prop :=
  True

def algebraic_KernelIdeal_RefAttIdeal_on_att_columns [hKernelIdeal : Cert.KernelIdeal.Facts] [hRefAttIdeal : Cert.RefAttIdeal.Facts] [hOn_att_columns : Cert.On_att_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefAttIdeal.nD Cert.RefAttIdeal.τ Cert.RefAttIdeal.sig) → Buf (Elt Ideal) ℓ) (g' : Dev Cert.RefAttIdeal.nD → PrngReg), Pre_KernelIdeal m →
    (∀ c : Dev Cert.KernelIdeal.nD,
      m' ((c.tc : Thread Cert.RefAttIdeal.nD Cert.RefAttIdeal.τ).loc Cert.RefAttIdeal.main_arg0) = m ((c.tc : Thread Cert.KernelIdeal.nD Cert.KernelIdeal.τ).loc Cert.KernelIdeal.main_arg0)
      ∧ m' ((c.tc : Thread Cert.RefAttIdeal.nD Cert.RefAttIdeal.τ).loc Cert.RefAttIdeal.main_arg1) = m ((c.tc : Thread Cert.KernelIdeal.nD Cert.KernelIdeal.τ).loc Cert.KernelIdeal.main_arg1)
      ∧ m' ((c.tc : Thread Cert.RefAttIdeal.nD Cert.RefAttIdeal.τ).loc Cert.RefAttIdeal.main_arg2) = m ((c.tc : Thread Cert.KernelIdeal.nD Cert.KernelIdeal.τ).loc Cert.KernelIdeal.main_arg2)
      ∧ m' ((c.tc : Thread Cert.RefAttIdeal.nD Cert.RefAttIdeal.τ).loc Cert.RefAttIdeal.main_arg3) = m ((c.tc : Thread Cert.KernelIdeal.nD Cert.KernelIdeal.τ).loc Cert.KernelIdeal.main_arg3)
      ∧ m' ((c.tc : Thread Cert.RefAttIdeal.nD Cert.RefAttIdeal.τ).loc Cert.RefAttIdeal.main_arg4) = m ((c.tc : Thread Cert.KernelIdeal.nD Cert.KernelIdeal.τ).loc Cert.KernelIdeal.main_arg4)
      ∧ m' ((c.tc : Thread Cert.RefAttIdeal.nD Cert.RefAttIdeal.τ).loc Cert.RefAttIdeal.main_arg5) = m ((c.tc : Thread Cert.KernelIdeal.nD Cert.KernelIdeal.τ).loc Cert.KernelIdeal.main_arg5)
      ∧ m' ((c.tc : Thread Cert.RefAttIdeal.nD Cert.RefAttIdeal.τ).loc Cert.RefAttIdeal.main_arg6) = m ((c.tc : Thread Cert.KernelIdeal.nD Cert.KernelIdeal.τ).loc Cert.KernelIdeal.main_arg6)
      ∧ m' ((c.tc : Thread Cert.RefAttIdeal.nD Cert.RefAttIdeal.τ).loc Cert.RefAttIdeal.main_arg7) = m ((c.tc : Thread Cert.KernelIdeal.nD Cert.KernelIdeal.τ).loc Cert.KernelIdeal.main_arg7)
      ∧ m' ((c.tc : Thread Cert.RefAttIdeal.nD Cert.RefAttIdeal.τ).loc Cert.RefAttIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![16384, 2048]⟩ : Shape).Idx, (Cert.On_att_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) i = 1#1 → r.2.mem ((c.tc : Thread Cert.KernelIdeal.nD Cert.KernelIdeal.τ).loc Cert.KernelIdeal.main_v11) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.RefAttIdeal.defs (F := Ideal)) (onTc (τ := Cert.RefAttIdeal.τ) (Cert.RefAttIdeal.main (F := Ideal))) ⟨m', fun _ => 0, g'⟩ (fun r => ∀ c : Dev Cert.RefAttIdeal.nD,
          (∀ i : (⟨2, ![16384, 2048]⟩ : Shape).Idx, (Cert.On_att_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) i = 1#1 → r.2.mem ((c.tc : Thread Cert.RefAttIdeal.nD Cert.RefAttIdeal.τ).loc Cert.RefAttIdeal.main_v87) i = v0 c i)
          ∧ r.2.mem ((c.tc : Thread Cert.RefAttIdeal.nD Cert.RefAttIdeal.τ).loc Cert.RefAttIdeal.main_arg0) = m' ((c.tc : Thread Cert.RefAttIdeal.nD Cert.RefAttIdeal.τ).loc Cert.RefAttIdeal.main_arg0)
          ∧ r.2.mem ((c.tc : Thread Cert.RefAttIdeal.nD Cert.RefAttIdeal.τ).loc Cert.RefAttIdeal.main_arg1) = m' ((c.tc : Thread Cert.RefAttIdeal.nD Cert.RefAttIdeal.τ).loc Cert.RefAttIdeal.main_arg1)
          ∧ r.2.mem ((c.tc : Thread Cert.RefAttIdeal.nD Cert.RefAttIdeal.τ).loc Cert.RefAttIdeal.main_arg2) = m' ((c.tc : Thread Cert.RefAttIdeal.nD Cert.RefAttIdeal.τ).loc Cert.RefAttIdeal.main_arg2)
          ∧ r.2.mem ((c.tc : Thread Cert.RefAttIdeal.nD Cert.RefAttIdeal.τ).loc Cert.RefAttIdeal.main_arg3) = m' ((c.tc : Thread Cert.RefAttIdeal.nD Cert.RefAttIdeal.τ).loc Cert.RefAttIdeal.main_arg3)
          ∧ r.2.mem ((c.tc : Thread Cert.RefAttIdeal.nD Cert.RefAttIdeal.τ).loc Cert.RefAttIdeal.main_arg4) = m' ((c.tc : Thread Cert.RefAttIdeal.nD Cert.RefAttIdeal.τ).loc Cert.RefAttIdeal.main_arg4)
          ∧ r.2.mem ((c.tc : Thread Cert.RefAttIdeal.nD Cert.RefAttIdeal.τ).loc Cert.RefAttIdeal.main_arg5) = m' ((c.tc : Thread Cert.RefAttIdeal.nD Cert.RefAttIdeal.τ).loc Cert.RefAttIdeal.main_arg5)
          ∧ r.2.mem ((c.tc : Thread Cert.RefAttIdeal.nD Cert.RefAttIdeal.τ).loc Cert.RefAttIdeal.main_arg6) = m' ((c.tc : Thread Cert.RefAttIdeal.nD Cert.RefAttIdeal.τ).loc Cert.RefAttIdeal.main_arg6)
          ∧ r.2.mem ((c.tc : Thread Cert.RefAttIdeal.nD Cert.RefAttIdeal.τ).loc Cert.RefAttIdeal.main_arg7) = m' ((c.tc : Thread Cert.RefAttIdeal.nD Cert.RefAttIdeal.τ).loc Cert.RefAttIdeal.main_arg7)
          ∧ r.2.mem ((c.tc : Thread Cert.RefAttIdeal.nD Cert.RefAttIdeal.τ).loc Cert.RefAttIdeal.main_arg8) = m' ((c.tc : Thread Cert.RefAttIdeal.nD Cert.RefAttIdeal.τ).loc Cert.RefAttIdeal.main_arg8))

def preserves_Ada_AdaIdeal : Prop :=
  True

def algebraic_AdaIdeal_RefAdaIdeal [hAdaIdeal : Cert.AdaIdeal.Facts] [hRefAdaIdeal : Cert.RefAdaIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.RefAdaIdeal.nD Cert.RefAdaIdeal.τ Cert.RefAdaIdeal.sig) → Buf (Elt Ideal) ℓ) (g' : Dev Cert.RefAdaIdeal.nD → PrngReg), Pre_AdaIdeal m →
    (∀ c : Dev Cert.AdaIdeal.nD,
      m' ((c.tc : Thread Cert.RefAdaIdeal.nD Cert.RefAdaIdeal.τ).loc Cert.RefAdaIdeal.main_arg0) = m ((c.tc : Thread Cert.AdaIdeal.nD Cert.AdaIdeal.τ).loc Cert.AdaIdeal.main_arg0)
      ∧ m' ((c.tc : Thread Cert.RefAdaIdeal.nD Cert.RefAdaIdeal.τ).loc Cert.RefAdaIdeal.main_arg1) = m ((c.tc : Thread Cert.AdaIdeal.nD Cert.AdaIdeal.τ).loc Cert.AdaIdeal.main_arg1)
      ∧ m' ((c.tc : Thread Cert.RefAdaIdeal.nD Cert.RefAdaIdeal.τ).loc Cert.RefAdaIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.RefAdaIdeal.defs (F := Ideal)) (onTc (τ := Cert.RefAdaIdeal.τ) (Cert.RefAdaIdeal.main (F := Ideal))) ⟨m', fun _ => 0, g'⟩ (fun r => ∀ c : Dev Cert.RefAdaIdeal.nD,
          r.2.mem ((c.tc : Thread Cert.RefAdaIdeal.nD Cert.RefAdaIdeal.τ).loc Cert.RefAdaIdeal.main_v4) = v0 c
          ∧ r.2.mem ((c.tc : Thread Cert.RefAdaIdeal.nD Cert.RefAdaIdeal.τ).loc Cert.RefAdaIdeal.main_arg0) = m' ((c.tc : Thread Cert.RefAdaIdeal.nD Cert.RefAdaIdeal.τ).loc Cert.RefAdaIdeal.main_arg0)
          ∧ r.2.mem ((c.tc : Thread Cert.RefAdaIdeal.nD Cert.RefAdaIdeal.τ).loc Cert.RefAdaIdeal.main_arg1) = m' ((c.tc : Thread Cert.RefAdaIdeal.nD Cert.RefAdaIdeal.τ).loc Cert.RefAdaIdeal.main_arg1)
          ∧ r.2.mem ((c.tc : Thread Cert.RefAdaIdeal.nD Cert.RefAdaIdeal.τ).loc Cert.RefAdaIdeal.main_arg2) = m' ((c.tc : Thread Cert.RefAdaIdeal.nD Cert.RefAdaIdeal.τ).loc Cert.RefAdaIdeal.main_arg2))

def preserves_Inproj_InprojIdeal : Prop :=
  True

def algebraic_InprojIdeal_RefInprojIdeal [hInprojIdeal : Cert.InprojIdeal.Facts] [hRefInprojIdeal : Cert.RefInprojIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.RefInprojIdeal.nD Cert.RefInprojIdeal.τ Cert.RefInprojIdeal.sig) → Buf (Elt Ideal) ℓ) (g' : Dev Cert.RefInprojIdeal.nD → PrngReg), Pre_InprojIdeal m →
    (∀ c : Dev Cert.InprojIdeal.nD,
      m' ((c.tc : Thread Cert.RefInprojIdeal.nD Cert.RefInprojIdeal.τ).loc Cert.RefInprojIdeal.main_arg0) = m ((c.tc : Thread Cert.InprojIdeal.nD Cert.InprojIdeal.τ).loc Cert.InprojIdeal.main_arg0)
      ∧ m' ((c.tc : Thread Cert.RefInprojIdeal.nD Cert.RefInprojIdeal.τ).loc Cert.RefInprojIdeal.main_arg1) = m ((c.tc : Thread Cert.InprojIdeal.nD Cert.InprojIdeal.τ).loc Cert.InprojIdeal.main_arg1)
      ∧ m' ((c.tc : Thread Cert.RefInprojIdeal.nD Cert.RefInprojIdeal.τ).loc Cert.RefInprojIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v12)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v12) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.RefInprojIdeal.defs (F := Ideal)) (onTc (τ := Cert.RefInprojIdeal.τ) (Cert.RefInprojIdeal.main (F := Ideal))) ⟨m', fun _ => 0, g'⟩ (fun r => ∀ c : Dev Cert.RefInprojIdeal.nD,
          r.2.mem ((c.tc : Thread Cert.RefInprojIdeal.nD Cert.RefInprojIdeal.τ).loc Cert.RefInprojIdeal.main_v29) = v0 c
          ∧ r.2.mem ((c.tc : Thread Cert.RefInprojIdeal.nD Cert.RefInprojIdeal.τ).loc Cert.RefInprojIdeal.main_arg0) = m' ((c.tc : Thread Cert.RefInprojIdeal.nD Cert.RefInprojIdeal.τ).loc Cert.RefInprojIdeal.main_arg0)
          ∧ r.2.mem ((c.tc : Thread Cert.RefInprojIdeal.nD Cert.RefInprojIdeal.τ).loc Cert.RefInprojIdeal.main_arg1) = m' ((c.tc : Thread Cert.RefInprojIdeal.nD Cert.RefInprojIdeal.τ).loc Cert.RefInprojIdeal.main_arg1)
          ∧ r.2.mem ((c.tc : Thread Cert.RefInprojIdeal.nD Cert.RefInprojIdeal.τ).loc Cert.RefInprojIdeal.main_arg2) = m' ((c.tc : Thread Cert.RefInprojIdeal.nD Cert.RefInprojIdeal.τ).loc Cert.RefInprojIdeal.main_arg2))

def preserves_Outproj_OutprojIdeal : Prop :=
  True

def algebraic_OutprojIdeal_RefOutprojIdeal [hOutprojIdeal : Cert.OutprojIdeal.Facts] [hRefOutprojIdeal : Cert.RefOutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.RefOutprojIdeal.nD Cert.RefOutprojIdeal.τ Cert.RefOutprojIdeal.sig) → Buf (Elt Ideal) ℓ) (g' : Dev Cert.RefOutprojIdeal.nD → PrngReg), Pre_OutprojIdeal m →
    (∀ c : Dev Cert.OutprojIdeal.nD,
      m' ((c.tc : Thread Cert.RefOutprojIdeal.nD Cert.RefOutprojIdeal.τ).loc Cert.RefOutprojIdeal.main_arg0) = m ((c.tc : Thread Cert.OutprojIdeal.nD Cert.OutprojIdeal.τ).loc Cert.OutprojIdeal.main_arg0)
      ∧ m' ((c.tc : Thread Cert.RefOutprojIdeal.nD Cert.RefOutprojIdeal.τ).loc Cert.RefOutprojIdeal.main_arg1) = m ((c.tc : Thread Cert.OutprojIdeal.nD Cert.OutprojIdeal.τ).loc Cert.OutprojIdeal.main_arg1)
      ∧ m' ((c.tc : Thread Cert.RefOutprojIdeal.nD Cert.RefOutprojIdeal.τ).loc Cert.RefOutprojIdeal.main_arg2) = m ((c.tc : Thread Cert.OutprojIdeal.nD Cert.OutprojIdeal.τ).loc Cert.OutprojIdeal.main_arg2)
      ∧ m' ((c.tc : Thread Cert.RefOutprojIdeal.nD Cert.RefOutprojIdeal.τ).loc Cert.RefOutprojIdeal.main_arg3) = m ((c.tc : Thread Cert.OutprojIdeal.nD Cert.OutprojIdeal.τ).loc Cert.OutprojIdeal.main_arg3)
      ∧ m' ((c.tc : Thread Cert.RefOutprojIdeal.nD Cert.RefOutprojIdeal.τ).loc Cert.RefOutprojIdeal.main_arg4) = m ((c.tc : Thread Cert.OutprojIdeal.nD Cert.OutprojIdeal.τ).loc Cert.OutprojIdeal.main_arg4)
      ∧ m' ((c.tc : Thread Cert.RefOutprojIdeal.nD Cert.RefOutprojIdeal.τ).loc Cert.RefOutprojIdeal.main_arg5) = m ((c.tc : Thread Cert.OutprojIdeal.nD Cert.OutprojIdeal.τ).loc Cert.OutprojIdeal.main_arg5)
      ∧ m' ((c.tc : Thread Cert.RefOutprojIdeal.nD Cert.RefOutprojIdeal.τ).loc Cert.RefOutprojIdeal.main_arg6) = m ((c.tc : Thread Cert.OutprojIdeal.nD Cert.OutprojIdeal.τ).loc Cert.OutprojIdeal.main_arg6)) →
    ∃ (v0 : (c : Dev Cert.OutprojIdeal.nD) → Buf (Elt Ideal) ((c.tc : Thread Cert.OutprojIdeal.nD Cert.OutprojIdeal.τ).loc Cert.OutprojIdeal.main_v6_0)) (v1 : (c : Dev Cert.OutprojIdeal.nD) → Buf (Elt Ideal) ((c.tc : Thread Cert.OutprojIdeal.nD Cert.OutprojIdeal.τ).loc Cert.OutprojIdeal.main_v6_1)) (v2 : (c : Dev Cert.OutprojIdeal.nD) → Buf (Elt Ideal) ((c.tc : Thread Cert.OutprojIdeal.nD Cert.OutprojIdeal.τ).loc Cert.OutprojIdeal.main_v6_2)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v6_0) = v0 c
          ∧ r.2.mem ((c.tc : Thread Cert.OutprojIdeal.nD Cert.OutprojIdeal.τ).loc Cert.OutprojIdeal.main_v6_1) = v1 c
          ∧ r.2.mem ((c.tc : Thread Cert.OutprojIdeal.nD Cert.OutprojIdeal.τ).loc Cert.OutprojIdeal.main_v6_2) = v2 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ θ_run (Cert.RefOutprojIdeal.defs (F := Ideal)) (onTc (τ := Cert.RefOutprojIdeal.τ) (Cert.RefOutprojIdeal.main (F := Ideal))) ⟨m', fun _ => 0, g'⟩ (fun r => ∀ c : Dev Cert.RefOutprojIdeal.nD,
          r.2.mem ((c.tc : Thread Cert.RefOutprojIdeal.nD Cert.RefOutprojIdeal.τ).loc Cert.RefOutprojIdeal.main_v52) = v0 c
          ∧ r.2.mem ((c.tc : Thread Cert.RefOutprojIdeal.nD Cert.RefOutprojIdeal.τ).loc Cert.RefOutprojIdeal.main_v53) = v1 c
          ∧ r.2.mem ((c.tc : Thread Cert.RefOutprojIdeal.nD Cert.RefOutprojIdeal.τ).loc Cert.RefOutprojIdeal.main_v55) = v2 c
          ∧ r.2.mem ((c.tc : Thread Cert.RefOutprojIdeal.nD Cert.RefOutprojIdeal.τ).loc Cert.RefOutprojIdeal.main_arg0) = m' ((c.tc : Thread Cert.RefOutprojIdeal.nD Cert.RefOutprojIdeal.τ).loc Cert.RefOutprojIdeal.main_arg0)
          ∧ r.2.mem ((c.tc : Thread Cert.RefOutprojIdeal.nD Cert.RefOutprojIdeal.τ).loc Cert.RefOutprojIdeal.main_arg1) = m' ((c.tc : Thread Cert.RefOutprojIdeal.nD Cert.RefOutprojIdeal.τ).loc Cert.RefOutprojIdeal.main_arg1)
          ∧ r.2.mem ((c.tc : Thread Cert.RefOutprojIdeal.nD Cert.RefOutprojIdeal.τ).loc Cert.RefOutprojIdeal.main_arg2) = m' ((c.tc : Thread Cert.RefOutprojIdeal.nD Cert.RefOutprojIdeal.τ).loc Cert.RefOutprojIdeal.main_arg2)
          ∧ r.2.mem ((c.tc : Thread Cert.RefOutprojIdeal.nD Cert.RefOutprojIdeal.τ).loc Cert.RefOutprojIdeal.main_arg3) = m' ((c.tc : Thread Cert.RefOutprojIdeal.nD Cert.RefOutprojIdeal.τ).loc Cert.RefOutprojIdeal.main_arg3)
          ∧ r.2.mem ((c.tc : Thread Cert.RefOutprojIdeal.nD Cert.RefOutprojIdeal.τ).loc Cert.RefOutprojIdeal.main_arg4) = m' ((c.tc : Thread Cert.RefOutprojIdeal.nD Cert.RefOutprojIdeal.τ).loc Cert.RefOutprojIdeal.main_arg4)
          ∧ r.2.mem ((c.tc : Thread Cert.RefOutprojIdeal.nD Cert.RefOutprojIdeal.τ).loc Cert.RefOutprojIdeal.main_arg5) = m' ((c.tc : Thread Cert.RefOutprojIdeal.nD Cert.RefOutprojIdeal.τ).loc Cert.RefOutprojIdeal.main_arg5)
          ∧ r.2.mem ((c.tc : Thread Cert.RefOutprojIdeal.nD Cert.RefOutprojIdeal.τ).loc Cert.RefOutprojIdeal.main_arg6) = m' ((c.tc : Thread Cert.RefOutprojIdeal.nD Cert.RefOutprojIdeal.τ).loc Cert.RefOutprojIdeal.main_arg6))

def Claim : Prop :=
  ∃ (hKernel : Cert.Kernel.Facts) (hKernelIdeal : Cert.KernelIdeal.Facts) (hRefAttIdeal : Cert.RefAttIdeal.Facts) (hAda : Cert.Ada.Facts) (hAdaIdeal : Cert.AdaIdeal.Facts) (hRefAdaIdeal : Cert.RefAdaIdeal.Facts) (hInproj : Cert.Inproj.Facts) (hInprojIdeal : Cert.InprojIdeal.Facts) (hRefInprojIdeal : Cert.RefInprojIdeal.Facts) (hOutproj : Cert.Outproj.Facts) (hOutprojIdeal : Cert.OutprojIdeal.Facts) (hRefOutprojIdeal : Cert.RefOutprojIdeal.Facts) (hOn_att_columns : Cert.On_att_columns.Facts),
    quiescent_Kernel (hKernel := hKernel)
    ∧ quiescent_KernelIdeal (hKernelIdeal := hKernelIdeal)
    ∧ quiescent_RefAttIdeal (hRefAttIdeal := hRefAttIdeal)
    ∧ quiescent_Ada (hAda := hAda)
    ∧ quiescent_AdaIdeal (hAdaIdeal := hAdaIdeal)
    ∧ quiescent_RefAdaIdeal (hRefAdaIdeal := hRefAdaIdeal)
    ∧ quiescent_Inproj (hInproj := hInproj)
    ∧ quiescent_InprojIdeal (hInprojIdeal := hInprojIdeal)
    ∧ quiescent_RefInprojIdeal (hRefInprojIdeal := hRefInprojIdeal)
    ∧ quiescent_Outproj (hOutproj := hOutproj)
    ∧ quiescent_OutprojIdeal (hOutprojIdeal := hOutprojIdeal)
    ∧ quiescent_RefOutprojIdeal (hRefOutprojIdeal := hRefOutprojIdeal)
    ∧ preserves_Kernel_KernelIdeal
    ∧ algebraic_KernelIdeal_RefAttIdeal_on_att_columns (hKernelIdeal := hKernelIdeal) (hRefAttIdeal := hRefAttIdeal) (hOn_att_columns := hOn_att_columns)
    ∧ preserves_Ada_AdaIdeal
    ∧ algebraic_AdaIdeal_RefAdaIdeal (hAdaIdeal := hAdaIdeal) (hRefAdaIdeal := hRefAdaIdeal)
    ∧ preserves_Inproj_InprojIdeal
    ∧ algebraic_InprojIdeal_RefInprojIdeal (hInprojIdeal := hInprojIdeal) (hRefInprojIdeal := hRefInprojIdeal)
    ∧ preserves_Outproj_OutprojIdeal
    ∧ algebraic_OutprojIdeal_RefOutprojIdeal (hOutprojIdeal := hOutprojIdeal) (hRefOutprojIdeal := hRefOutprojIdeal)
-- ==== On_att_columns.lean ====
abbrev S16384x4096 : Shape := ⟨2, ![16384, 4096]⟩
abbrev S16 : Shape := ⟨1, ![16]⟩
abbrev S4x1536 : Shape := ⟨2, ![4, 1536]⟩
abbrev S1536 : Shape := ⟨1, ![1536]⟩
abbrev S1024 : Shape := ⟨1, ![1024]⟩
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)

variable [Facts]

def fn {F : FTy → Type} [FloatOps F] (main_arg0 : FVec F S16384x4096 .f32) (main_arg1 : FVec F S16 .f32) (main_arg2 : FVec F S4x1536 .f32) (main_arg3 : FVec F S1536 .f32) (main_arg4 : FVec F S16 .f32) (main_arg5 : FVec F S16 .f32) (main_arg6 : FVec F S16 .f32) (main_arg7 : FVec F S1024 .f32) (main_arg8 : FVec F S1024 .f32) : IVec S16384x2048 1 :=
  let main_v0 : IVec S16384x2048 32 := iotaInDim S16384x2048 32 1
  let main_c : IVec S_ 32 := constantI S_ 32 1024#32
  let main_v1 : IVec S16384x2048 32 := broadcastInDim S16384x2048 ![] bcast_S_S16384x2048 main_c
  let main_v2 : IVec S16384x2048 1 := cmpi .sge main_v0 main_v1
  main_v2
-- ==== Kernel.lean ====
abbrev S16384x4096 : Shape := ⟨2, ![16384, 4096]⟩
abbrev S16 : Shape := ⟨1, ![16]⟩
abbrev S4x1536 : Shape := ⟨2, ![4, 1536]⟩
abbrev S1536 : Shape := ⟨1, ![1536]⟩
abbrev S1024 : Shape := ⟨1, ![1024]⟩
abbrev S_ : Shape := ⟨0, ![]⟩
abbrev S8x1536 : Shape := ⟨2, ![8, 1536]⟩
abbrev S1x1536 : Shape := ⟨2, ![1, 1536]⟩
abbrev S128 : Shape := ⟨1, ![128]⟩
abbrev S1x128 : Shape := ⟨2, ![1, 128]⟩
abbrev S16x64 : Shape := ⟨2, ![16, 64]⟩
abbrev S1x1024 : Shape := ⟨2, ![1, 1024]⟩
abbrev S16384x2048 : Shape := ⟨2, ![16384, 2048]⟩
abbrev S128x1024 : Shape := ⟨2, ![128, 1024]⟩
abbrev S128x512 : Shape := ⟨2, ![128, 512]⟩
abbrev S128x2048 : Shape := ⟨2, ![128, 2048]⟩
abbrev S136x1536 : Shape := ⟨2, ![136, 1536]⟩
abbrev S2x128x512 : Shape := ⟨3, ![2, 128, 512]⟩
abbrev S128x128 : Shape := ⟨2, ![128, 128]⟩
abbrev S128x1536 : Shape := ⟨2, ![128, 1536]⟩
abbrev S1x128x512 : Shape := ⟨3, ![1, 128, 512]⟩
abbrev S128x1 : Shape := ⟨2, ![128, 1]⟩
abbrev S1x1 : Shape := ⟨2, ![1, 1]⟩
abbrev S1x512 : Shape := ⟨2, ![1, 512]⟩
abbrev S256x128 : Shape := ⟨2, ![256, 128]⟩
abbrev S128x256 : Shape := ⟨2, ![128, 256]⟩
abbrev S1 : Shape := ⟨1, ![1]⟩

abbrev nBuf : Space → Nat
  | .hbm => 27
  | .vmem => 23
  | .smem => 1
  | _ => 0

abbrev bufTy : (tb : Table) → Fin (tcTables nBuf tb) → BufTy
  | .hbm, ⟨0, _⟩ => ⟨S16384x4096, .f32⟩
  | .hbm, ⟨1, _⟩ => ⟨S16, .f32⟩
  | .hbm, ⟨2, _⟩ => ⟨S4x1536, .f32⟩
  | .hbm, ⟨3, _⟩ => ⟨S1536, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S1024, .f32⟩
  | .hbm, ⟨8, _⟩ => ⟨S1024, .f32⟩
  | .hbm, ⟨9, _⟩ => ⟨S_, .i32⟩
  | .hbm, ⟨10, _⟩ => ⟨S_, .f32⟩
  | .hbm, ⟨11, _⟩ => ⟨S8x1536, .f32⟩
  | .hbm, ⟨12, _⟩ => ⟨S1x1536, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S16x64, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S16384x2048, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S8x1536, .f32⟩
  | .local _ .vmem, ⟨11, _⟩ => ⟨S1x1536, .f32⟩
  | .local _ .vmem, ⟨12, _⟩ => ⟨S1x128, .f32⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S128x2048, .bf16⟩
  | .local _ .vmem, ⟨18, _⟩ => ⟨S128x2048, .bf16⟩
  | .local _ .vmem, ⟨19, _⟩ => ⟨S136x1536, .f32⟩
  | .local _ .vmem, ⟨20, _⟩ => ⟨S2x128x512, .f32⟩
  | .local _ .vmem, ⟨21, _⟩ => ⟨S128x128, .f32⟩
  | .local _ .vmem, ⟨22, _⟩ => ⟨S128x128, .f32⟩
  | .local _ .smem, ⟨0, _⟩ => ⟨S16, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_call1_v0 : Ref sig .tc := ⟨.hbm, 14, rfl⟩
abbrev main_v2 : Ref sig .tc := ⟨.hbm, 15, rfl⟩
abbrev main_v3 : Ref sig .tc := ⟨.hbm, 16, rfl⟩
abbrev main_c_1 : Ref sig .tc := ⟨.hbm, 17, rfl⟩
abbrev main_call2_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c6_i32 : BitVec 32 := 6#32
  let c0_i32 : BitVec 32 := 0#32
  ![v1.toNat, c6_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c7_i32 : BitVec 32 := 7#32
  let c0_i32 : BitVec 32 := 0#32
  ![v1.toNat, c7_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== RefAttIdeal.lean ====
abbrev S16384x4096 : Shape := ⟨2, ![16384, 4096]⟩
abbrev S16 : Shape := ⟨1, ![16]⟩
abbrev S4x1536 : Shape := ⟨2, ![4, 1536]⟩
abbrev S1536 : Shape := ⟨1, ![1536]⟩
abbrev S1024 : Shape := ⟨1, ![1024]⟩
abbrev S4x4096x4096 : Shape := ⟨3, ![4, 4096, 4096]⟩
abbrev S4x4096x1024 : Shape := ⟨3, ![4, 4096, 1024]⟩
abbrev S4x4096x128 : Shape := ⟨3, ![4, 4096, 128]⟩
abbrev S4x32x128x2x8x64 : Shape := ⟨6, ![4, 32, 128, 2, 8, 64]⟩
abbrev S_ : Shape := ⟨0, ![]⟩
abbrev S4x32x128x2x64 : Shape := ⟨5, ![4, 32, 128, 2, 64]⟩
abbrev S4x1x128x2x64 : Shape := ⟨5, ![4, 1, 128, 2, 64]⟩
abbrev S4x31x128x2x64 : Shape := ⟨5, ![4, 31, 128, 2, 64]⟩
abbrev S4x32x256x2x64 : Shape := ⟨5, ![4, 32, 256, 2, 64]⟩
abbrev S4x32x2x256x128x8 : Shape := ⟨6, ![4, 32, 2, 256, 128, 8]⟩
abbrev S4x32x2x8x128x256 : Shape := ⟨6, ![4, 32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S2x8 : Shape := ⟨2, ![2, 8]⟩
abbrev S1x1x2x8x1x1 : Shape := ⟨6, ![1, 1, 2, 8, 1, 1]⟩
abbrev S4x32x2x8x128 : Shape := ⟨5, ![4, 32, 2, 8, 128]⟩
abbrev S4x32x2x8x128x1 : Shape := ⟨6, ![4, 32, 2, 8, 128, 1]⟩
abbrev S4x32x2x64x8x128 : Shape := ⟨6, ![4, 32, 2, 64, 8, 128]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩
abbrev S16384x2048 : Shape := ⟨2, ![16384, 2048]⟩

abbrev nBuf : Space → Nat
  | .hbm => 115
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16, .f32⟩
  | .hbm, ⟨2, _⟩ => ⟨S4x1536, .f32⟩
  | .hbm, ⟨3, _⟩ => ⟨S1536, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S1024, .f32⟩
  | .hbm, ⟨8, _⟩ => ⟨S1024, .f32⟩
  | .hbm, ⟨9, _⟩ => ⟨S4x4096x4096, .f32⟩
  | .hbm, ⟨10, _⟩ => ⟨S4x4096x1024, .f32⟩
  | .hbm, ⟨11, _⟩ => ⟨S4x4096x128, .f32⟩
  | .hbm, ⟨12, _⟩ => ⟨S4x4096x128, .f32⟩
  | .hbm, ⟨13, _⟩ => ⟨S4x32x128x2x8x64, .f32⟩
  | .hbm, ⟨14, _⟩ => ⟨S_, .f32⟩
  | .hbm, ⟨15, _⟩ => ⟨S4x32x128x2x8x64, .f32⟩
  | .hbm, ⟨16, _⟩ => ⟨S4x32x128x2x8x64, .f32⟩
  | .hbm, ⟨17, _⟩ => ⟨S4x32x128x2x64, .f32⟩
  | .hbm, ⟨18, _⟩ => ⟨S4x32x128x2x64, .f32⟩
  | .hbm, ⟨19, _⟩ => ⟨S4x1x128x2x64, .f32⟩
  | .hbm, ⟨20, _⟩ => ⟨S_, .f32⟩
  | .hbm, ⟨21, _⟩ => ⟨S4x1x128x2x64, .f32⟩
  | .hbm, ⟨22, _⟩ => ⟨S4x31x128x2x64, .f32⟩
  | .hbm, ⟨23, _⟩ => ⟨S4x32x128x2x64, .f32⟩
  | .hbm, ⟨24, _⟩ => ⟨S4x32x256x2x64, .f32⟩
  | .hbm, ⟨25, _⟩ => ⟨S4x1x128x2x64, .f32⟩
  | .hbm, ⟨26, _⟩ => ⟨S_, .f32⟩
  | .hbm, ⟨27, _⟩ => ⟨S4x1x128x2x64, .f32⟩
  | .hbm, ⟨28, _⟩ => ⟨S4x31x128x2x64, .f32⟩
  | .hbm, ⟨29, _⟩ => ⟨S4x32x128x2x64, .f32⟩
  | .hbm, ⟨30, _⟩ => ⟨S4x32x256x2x64, .f32⟩
  | .hbm, ⟨31, _⟩ => ⟨S4x32x2x256x128x8, .f32⟩
  | .hbm, ⟨32, _⟩ => ⟨S4x32x2x8x128x256, .f32⟩
  | .hbm, ⟨33, _⟩ => ⟨S128, .i32⟩
  | .hbm, ⟨34, _⟩ => ⟨S128x1, .i32⟩
  | .hbm, ⟨35, _⟩ => ⟨S256, .i32⟩
  | .hbm, ⟨36, _⟩ => ⟨S1x256, .i32⟩
  | .hbm, ⟨37, _⟩ => ⟨S_, .i32⟩
  | .hbm, ⟨38, _⟩ => ⟨S128x1, .i32⟩
  | .hbm, ⟨39, _⟩ => ⟨S128x1, .i32⟩
  | .hbm, ⟨40, _⟩ => ⟨S128x256, .i32⟩
  | .hbm, ⟨41, _⟩ => ⟨S128x256, .i32⟩
  | .hbm, ⟨42, _⟩ => ⟨S128x256, .i32⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S_, .i32⟩
  | .hbm, ⟨47, _⟩ => ⟨S128x256, .i32⟩
  | .hbm, ⟨48, _⟩ => ⟨S128x256, .i1⟩
  | .hbm, ⟨49, _⟩ => ⟨S128x256, .i1⟩
  | .hbm, ⟨50, _⟩ => ⟨S32, .i32⟩
  | .hbm, ⟨51, _⟩ => ⟨S32x1x1, .i32⟩
  | .hbm, ⟨52, _⟩ => ⟨S1x128x256, .i1⟩
  | .hbm, ⟨53, _⟩ => ⟨S_, .i32⟩
  | .hbm, ⟨54, _⟩ => ⟨S32x1x1, .i32⟩
  | .hbm, ⟨55, _⟩ => ⟨S32x1x1, .i1⟩
  | .hbm, ⟨56, _⟩ => ⟨S_, .i32⟩
  | .hbm, ⟨57, _⟩ => ⟨S1x256, .i32⟩
  | .hbm, ⟨58, _⟩ => ⟨S1x256, .i1⟩
  | .hbm, ⟨59, _⟩ => ⟨S1x1x256, .i1⟩
  | .hbm, ⟨60, _⟩ => ⟨S32x1x256, .i1⟩
  | .hbm, ⟨61, _⟩ => ⟨S32x1x256, .i1⟩
  | .hbm, ⟨62, _⟩ => ⟨S32x1x256, .i1⟩
  | .hbm, ⟨63, _⟩ => ⟨S32x128x256, .i1⟩
  | .hbm, ⟨64, _⟩ => ⟨S32x128x256, .i1⟩
  | .hbm, ⟨65, _⟩ => ⟨S32x128x256, .i1⟩
  | .hbm, ⟨66, _⟩ => ⟨S1x32x1x1x128x256, .i1⟩
  | .hbm, ⟨67, _⟩ => ⟨S_, .f32⟩
  | .hbm, ⟨68, _⟩ => ⟨S_, .f32⟩
  | .hbm, ⟨69, _⟩ => ⟨S4x32x2x8x128x256, .i1⟩
  | .hbm, ⟨70, _⟩ => ⟨S4x32x2x8x128x256, .f32⟩
  | .hbm, ⟨71, _⟩ => ⟨S4x32x2x8x128x256, .f32⟩
  | .hbm, ⟨72, _⟩ => ⟨S2x8, .f32⟩
  | .hbm, ⟨73, _⟩ => ⟨S1x1x2x8x1x1, .f32⟩
  | .hbm, ⟨74, _⟩ => ⟨S_, .f32⟩
  | .hbm, ⟨75, _⟩ => ⟨S4x32x2x8x128, .f32⟩
  | .hbm, ⟨76, _⟩ => ⟨S4x32x2x8x128x1, .f32⟩
  | .hbm, ⟨77, _⟩ => ⟨S4x32x2x8x128x1, .f32⟩
  | .hbm, ⟨78, _⟩ => ⟨S4x32x2x8x128x1, .f32⟩
  | .hbm, ⟨79, _⟩ => ⟨S4x32x2x8x128x256, .f32⟩
  | .hbm, ⟨80, _⟩ => ⟨S4x32x2x8x128x256, .f32⟩
  | .hbm, ⟨81, _⟩ => ⟨S4x32x2x8x128x256, .f32⟩
  | .hbm, ⟨82, _⟩ => ⟨S_, .f32⟩
  | .hbm, ⟨83, _⟩ => ⟨S4x32x2x8x128, .f32⟩
  | .hbm, ⟨84, _⟩ => ⟨S4x32x2x8x128x1, .f32⟩
  | .hbm, ⟨85, _⟩ => ⟨S4x32x2x8x128x1, .f32⟩
  | .hbm, ⟨86, _⟩ => ⟨S4x32x2x8x128x1, .f32⟩
  | .hbm, ⟨87, _⟩ => ⟨S4x32x2x8x128x1, .f32⟩
  | .hbm, ⟨88, _⟩ => ⟨S4x32x2x8x128x1, .f32⟩
  | .hbm, ⟨89, _⟩ => ⟨S4x32x2x8x128x256, .f32⟩
  | .hbm, ⟨90, _⟩ => ⟨S4x32x2x8x128x256, .f32⟩
  | .hbm, ⟨91, _⟩ => ⟨S4x32x2x64x8x128, .f32⟩
  | .hbm, ⟨92, _⟩ => ⟨S4x32x128x2x8x64, .f32⟩
  | .hbm, ⟨93, _⟩ => ⟨S4x4096x1024, .f32⟩
  | .hbm, ⟨94, _⟩ => ⟨S4x4096x1024, .f32⟩
  | .hbm, ⟨95, _⟩ => ⟨S_, .f32⟩
  | .hbm, ⟨96, _⟩ => ⟨S4x4096, .f32⟩
  | .hbm, ⟨97, _⟩ => ⟨S4x4096x1, .f32⟩
  | .hbm, ⟨98, _⟩ => ⟨S_, .f32⟩
  | .hbm, ⟨99, _⟩ => ⟨S4x4096x1, .f32⟩
  | .hbm, ⟨100, _⟩ => ⟨S4x4096x1, .f32⟩
  | .hbm, ⟨101, _⟩ => ⟨S_, .f32⟩
  | .hbm, ⟨102, _⟩ => ⟨S4x4096x1, .f32⟩
  | .hbm, ⟨103, _⟩ => ⟨S4x4096x1, .f32⟩
  | .hbm, ⟨104, _⟩ => ⟨S4x4096x1, .f32⟩
  | .hbm, ⟨105, _⟩ => ⟨S4x4096x1024, .f32⟩
  | .hbm, ⟨106, _⟩ => ⟨S4x4096x1024, .f32⟩
  | .hbm, ⟨107, _⟩ => ⟨S1x1x1024, .f32⟩
  | .hbm, ⟨108, _⟩ => ⟨S4x4096x1024, .f32⟩
  | .hbm, ⟨109, _⟩ => ⟨S4x4096x1024, .f32⟩
  | .hbm, ⟨110, _⟩ => ⟨S_, .f32⟩
  | .hbm, ⟨111, _⟩ => ⟨S4x4096x1024, .f32⟩
  | .hbm, ⟨112, _⟩ => ⟨S4x4096x2048, .f32⟩
  | .hbm, ⟨113, _⟩ => ⟨S4x4096x2048, .bf16⟩
  | .hbm, ⟨114, _⟩ => ⟨S16384x2048, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_2 : Ref sig .tc := ⟨.hbm, 43, rfl⟩
abbrev main_v30 : Ref sig .tc := ⟨.hbm, 44, rfl⟩
abbrev main_v31 : Ref sig .tc := ⟨.hbm, 45, rfl⟩
abbrev main_c_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_4 : Ref sig .tc := ⟨.hbm, 53, rfl⟩
abbrev main_v38 : Ref sig .tc := ⟨.hbm, 54, rfl⟩
abbrev main_v39 : Ref sig .tc := ⟨.hbm, 55, rfl⟩
abbrev main_c_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_7 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_9 : Ref sig .tc := ⟨.hbm, 95, rfl⟩
abbrev main_v72 : Ref sig .tc := ⟨.hbm, 96, rfl⟩
abbrev main_v73 : Ref sig .tc := ⟨.hbm, 97, rfl⟩
abbrev main_cst_10 : Ref sig .tc := ⟨.hbm, 98, rfl⟩
abbrev main_v74 : Ref sig .tc := ⟨.hbm, 99, rfl⟩
abbrev main_v75 : Ref sig .tc := ⟨.hbm, 100, rfl⟩
abbrev main_cst_11 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_12 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩

abbrev nD : Nat := 1
abbrev τ : Topo := Topo.v7x

variable {F : FTy → Type} [FloatOps F]
-- ==== Ada.lean ====
abbrev S8x2048 : Shape := ⟨2, ![8, 2048]⟩
abbrev S2048x12288 : Shape := ⟨2, ![2048, 12288]⟩
abbrev S12288 : Shape := ⟨1, ![12288]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefAdaIdeal.lean ====
abbrev S8x2048 : Shape := ⟨2, ![8, 2048]⟩
abbrev S2048x12288 : Shape := ⟨2, ![2048, 12288]⟩
abbrev S12288 : Shape := ⟨1, ![12288]⟩
abbrev S_ : Shape := ⟨0, ![]⟩
abbrev S8x12288 : Shape := ⟨2, ![8, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x12288, .f32⟩
  | .hbm, ⟨13, _⟩ => ⟨S1x12288, .f32⟩
  | .hbm, ⟨14, _⟩ => ⟨S8x12288, .f32⟩
  | .hbm, ⟨15, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Inproj.lean ====
abbrev S4x4096x2048 : Shape := ⟨3, ![4, 4096, 2048]⟩
abbrev S4x12288 : Shape := ⟨2, ![4, 12288]⟩
abbrev S2048x3856 : Shape := ⟨2, ![2048, 3856]⟩
abbrev S16384x2048 : Shape := ⟨2, ![16384, 2048]⟩
abbrev S4x1x12288 : Shape := ⟨3, ![4, 1, 12288]⟩
abbrev S_ : Shape := ⟨0, ![]⟩
abbrev S2048x240 : Shape := ⟨2, ![2048, 240]⟩
abbrev S2048x1024 : Shape := ⟨2, ![2048, 1024]⟩
abbrev S2048x512 : Shape := ⟨2, ![2048, 512]⟩
abbrev S2048x128 : Shape := ⟨2, ![2048, 128]⟩
abbrev S2048x16 : Shape := ⟨2, ![2048, 16]⟩
abbrev S2048x4096 : Shape := ⟨2, ![2048, 4096]⟩
abbrev S16384x4096 : Shape := ⟨2, ![16384, 4096]⟩
abbrev S512x2048 : Shape := ⟨2, ![512, 2048]⟩
abbrev S1x1x2048 : Shape := ⟨3, ![1, 1, 2048]⟩
abbrev S512x4096 : Shape := ⟨2, ![512, 4096]⟩
abbrev S1x2048 : Shape := ⟨2, ![1, 2048]⟩
abbrev S512x1024 : Shape := ⟨2, ![512, 1024]⟩

abbrev nBuf : Space → Nat
  | .hbm => 17
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S4x12288, .f32⟩
  | .hbm, ⟨2, _⟩ => ⟨S2048x3856, .f32⟩
  | .hbm, ⟨3, _⟩ => ⟨S16384x2048, .f32⟩
  | .hbm, ⟨4, _⟩ => ⟨S4x1x12288, .f32⟩
  | .hbm, ⟨5, _⟩ => ⟨S2048x3856, .bf16⟩
  | .hbm, ⟨6, _⟩ => ⟨S_, .bf16⟩
  | .hbm, ⟨7, _⟩ => ⟨S2048x240, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S2048x512, .bf16⟩
  | .hbm, ⟨12, _⟩ => ⟨S2048x128, .bf16⟩
  | .hbm, ⟨13, _⟩ => ⟨S2048x128, .bf16⟩
  | .hbm, ⟨14, _⟩ => ⟨S2048x16, .bf16⟩
  | .hbm, ⟨15, _⟩ => ⟨S2048x4096, .bf16⟩
  | .hbm, ⟨16, _⟩ => ⟨S16384x4096, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x4096, .bf16⟩
  | .local _ .vmem, ⟨7, _⟩ => ⟨S512x4096, .f32⟩
  | .local _ .vmem, ⟨8, _⟩ => ⟨S512x4096, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefInprojIdeal.lean ====
abbrev S4x4096x2048 : Shape := ⟨3, ![4, 4096, 2048]⟩
abbrev S4x12288 : Shape := ⟨2, ![4, 12288]⟩
abbrev S2048x3856 : Shape := ⟨2, ![2048, 3856]⟩
abbrev S4x2048 : Shape := ⟨2, ![4, 2048]⟩
abbrev S4x1x2048 : Shape := ⟨3, ![4, 1, 2048]⟩
abbrev S_ : Shape := ⟨0, ![]⟩
abbrev S4x4096x3856 : Shape := ⟨3, ![4, 4096, 3856]⟩
abbrev S4x4096x1024 : Shape := ⟨3, ![4, 4096, 1024]⟩
abbrev S4x4096x1536 : Shape := ⟨3, ![4, 4096, 1536]⟩
abbrev S4x4096x16 : Shape := ⟨3, ![4, 4096, 16]⟩
abbrev S4x4096x128 : Shape := ⟨3, ![4, 4096, 128]⟩
abbrev S4x4096x240 : Shape := ⟨3, ![4, 4096, 240]⟩
abbrev S4x4096x512 : Shape := ⟨3, ![4, 4096, 512]⟩
abbrev S4x4096x4096 : Shape := ⟨3, ![4, 4096, 4096]⟩
abbrev S16384x4096 : Shape := ⟨2, ![16384, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x12288, .f32⟩
  | .hbm, ⟨2, _⟩ => ⟨S2048x3856, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S_, .f32⟩
  | .hbm, ⟨16, _⟩ => ⟨S4x1x2048, .f32⟩
  | .hbm, ⟨17, _⟩ => ⟨S4x1x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S4x4096x3856, .f32⟩
  | .hbm, ⟨23, _⟩ => ⟨S4x4096x1024, .f32⟩
  | .hbm, ⟨24, _⟩ => ⟨S4x4096x1536, .f32⟩
  | .hbm, ⟨25, _⟩ => ⟨S4x4096x16, .f32⟩
  | .hbm, ⟨26, _⟩ => ⟨S4x4096x1024, .f32⟩
  | .hbm, ⟨27, _⟩ => ⟨S4x4096x128, .f32⟩
  | .hbm, ⟨28, _⟩ => ⟨S4x4096x128, .f32⟩
  | .hbm, ⟨29, _⟩ => ⟨S_, .f32⟩
  | .hbm, ⟨30, _⟩ => ⟨S4x4096x240, .f32⟩
  | .hbm, ⟨31, _⟩ => ⟨S4x4096x1024, .f32⟩
  | .hbm, ⟨32, _⟩ => ⟨S4x4096x512, .f32⟩
  | .hbm, ⟨33, _⟩ => ⟨S4x4096x4096, .f32⟩
  | .hbm, ⟨34, _⟩ => ⟨S16384x4096, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]
-- ==== Outproj.lean ====
abbrev S16384x2048 : Shape := ⟨2, ![16384, 2048]⟩
abbrev S2048x2048 : Shape := ⟨2, ![2048, 2048]⟩
abbrev S4x4096x2048 : Shape := ⟨3, ![4, 4096, 2048]⟩
abbrev S4x12288 : Shape := ⟨2, ![4, 12288]⟩
abbrev S2048 : Shape := ⟨1, ![2048]⟩
abbrev S4x1x12288 : Shape := ⟨3, ![4, 1, 12288]⟩
abbrev S1x2048 : Shape := ⟨2, ![1, 2048]⟩
abbrev S16x16384x128 : Shape := ⟨3, ![16, 16384, 128]⟩
abbrev S256x2048 : Shape := ⟨2, ![256, 2048]⟩
abbrev S1x1x2048 : Shape := ⟨3, ![1, 1, 2048]⟩
abbrev S16x256x128 : Shape := ⟨3, ![16, 256, 128]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩

abbrev nBuf : Space → Nat
  | .hbm => 16
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S4x4096x2048, .f32⟩
  | .hbm, ⟨3, _⟩ => ⟨S4x12288, .f32⟩
  | .hbm, ⟨4, _⟩ => ⟨S2048, .f32⟩
  | .hbm, ⟨5, _⟩ => ⟨S2048, .f32⟩
  | .hbm, ⟨6, _⟩ => ⟨S2048x2048, .f32⟩
  | .hbm, ⟨7, _⟩ => ⟨S16384x2048, .f32⟩
  | .hbm, ⟨8, _⟩ => ⟨S4x1x12288, .f32⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S2048x2048, .bf16⟩
  | .hbm, ⟨13, _⟩ => ⟨S16384x2048, .f32⟩
  | .hbm, ⟨14, _⟩ => ⟨S16384x2048, .f32⟩
  | .hbm, ⟨15, _⟩ => ⟨S16x16384x128, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S2048x2048, .bf16⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S16x256x128, .bf16⟩
  | .local _ .vmem, ⟨19, _⟩ => ⟨S16x256x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RefOutprojIdeal.lean ====
abbrev S16384x2048 : Shape := ⟨2, ![16384, 2048]⟩
abbrev S2048x2048 : Shape := ⟨2, ![2048, 2048]⟩
abbrev S4x4096x2048 : Shape := ⟨3, ![4, 4096, 2048]⟩
abbrev S4x12288 : Shape := ⟨2, ![4, 12288]⟩
abbrev S2048 : Shape := ⟨1, ![2048]⟩
abbrev S4x2048 : Shape := ⟨2, ![4, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x16x128 : Shape := ⟨3, ![16384, 16, 128]⟩
abbrev S16x16384x128 : Shape := ⟨3, ![16, 16384, 128]⟩

abbrev nBuf : Space → Nat
  | .hbm => 70
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S4x4096x2048, .f32⟩
  | .hbm, ⟨3, _⟩ => ⟨S4x12288, .f32⟩
  | .hbm, ⟨4, _⟩ => ⟨S2048, .f32⟩
  | .hbm, ⟨5, _⟩ => ⟨S2048, .f32⟩
  | .hbm, ⟨6, _⟩ => ⟨S2048x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S4x1x2048, .f32⟩
  | .hbm, ⟨19, _⟩ => ⟨S16384x2048, .f32⟩
  | .hbm, ⟨20, _⟩ => ⟨S4x4096x2048, .f32⟩
  | .hbm, ⟨21, _⟩ => ⟨S4x4096x2048, .f32⟩
  | .hbm, ⟨22, _⟩ => ⟨S_, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x2048, .f32⟩
  | .hbm, ⟨44, _⟩ => ⟨S4x4096x2048, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x1, .f32⟩
  | .hbm, ⟨49, _⟩ => ⟨S4x4096x2048, .f32⟩
  | .hbm, ⟨50, _⟩ => ⟨S4x4096x2048, .f32⟩
  | .hbm, ⟨51, _⟩ => ⟨S1x1x2048, .f32⟩
  | .hbm, ⟨52, _⟩ => ⟨S4x4096x2048, .f32⟩
  | .hbm, ⟨53, _⟩ => ⟨S4x4096x2048, .f32⟩
  | .hbm, ⟨54, _⟩ => ⟨S1x1x2048, .f32⟩
  | .hbm, ⟨55, _⟩ => ⟨S4x4096x2048, .f32⟩
  | .hbm, ⟨56, _⟩ => ⟨S4x4096x2048, .f32⟩
  | .hbm, ⟨57, _⟩ => ⟨S_, .f32⟩
  | .hbm, ⟨58, _⟩ => ⟨S4x1x2048, .f32⟩
  | .hbm, ⟨59, _⟩ => ⟨S4x1x2048, .f32⟩
  | .hbm, ⟨60, _⟩ => ⟨S4x4096x2048, .f32⟩
  | .hbm, ⟨61, _⟩ => ⟨S4x4096x2048, .f32⟩
  | .hbm, ⟨62, _⟩ => ⟨S4x4096x2048, .f32⟩
  | .hbm, ⟨63, _⟩ => ⟨S4x4096x2048, .f32⟩
  | .hbm, ⟨64, _⟩ => ⟨S4x4096x2048, .f32⟩
  | .hbm, ⟨65, _⟩ => ⟨S16384x16x128, .f32⟩
  | .hbm, ⟨66, _⟩ => ⟨S16384x2048, .f32⟩
  | .hbm, ⟨67, _⟩ => ⟨S16384x2048, .f32⟩
  | .hbm, ⟨68, _⟩ => ⟨S16x16384x128, .f32⟩
  | .hbm, ⟨69, _⟩ => ⟨S16x16384x128, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Proof.AttVec.lean ====
/- The attention of one block as vector operations: one head's windowed softmax with its sink, the two heads
   of a lane pair, the sixteen heads side by side, and the normalisation of a row. -/
module

public import proofs.«01_k».proof.Proof.Gen.KernelIdeal.Skeleton
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Mix

open Cert.KernelIdeal Cert.KernelIdeal.Gen Idealize.ShloMosaic Idealize.SL.Sem

variable {F : FTy → Type} [FloatOps F]

/-- The scores of one head: the masked, scaled queries against the window's keys, `-∞` outside the window. -/
def scores (valid : IVec S128x256 1) (kd : FVec F S256x128 .bf16) (qm : FVec F S128x128 .f32) : FVec F S128x256 .f32 :=
  select valid
    (matmul dot_S128x128_S256x128_S128x256_1_1_0_0_n_n none (truncf .bf16 qm bitsLt_bf16_f32) kd
      (constant S128x256 .f32 0x00000000#32))
    (broadcast S128x256 (Scalar.ofBits .f32 0xFF800000#32))

/-- The row maximum of the scores, against the head's sink. -/
def peak (s : FVec F S128x256 .f32) (sink : F .f32) : FVec F S128x1 .f32 :=
  maximumf
    (shapeCast S128x1 (multiReduction .maximumf [1] S128 s 0xFF800000#32 reduces_S128x256_S128 (.inl rfl) rfl)
      shapeCasts_S128_S128x1)
    (broadcast S128x1 sink)

/-- The exponentials of the scores below their peak. -/
def expo (s : FVec F S128x256 .f32) (sink : F .f32) : FVec F S128x256 .f32 :=
  exp (subf s (broadcastTo S128x256 (peak s sink) broadcasts_S128x1_S128x256))

/-- The softmax's denominator: the exponentials' row sum and the sink's own exponential. -/
def denom (s : FVec F S128x256 .f32) (sink : F .f32) : FVec F S128x1 .f32 :=
  addf
    (shapeCast S128x1 (multiReduction .add [1] S128 (expo s sink) 0x00000000#32 reduces_S128x256_S128 (.inl rfl) rfl)
      shapeCasts_S128_S128x1)
    (exp (subf (broadcast S128x1 sink) (peak s sink)))

/-- One head's output: the softmax's weights against the window's values. -/
def head (valid : IVec S128x256 1) (kd vd : FVec F S256x128 .bf16) (qm : FVec F S128x128 .f32) (sink : F .f32) :
    FVec F S128x128 .f32 :=
  matmul dot_S128x256_S256x128_S128x128_1_0_0_1_n_n none
    (truncf .bf16
      (divf (expo (scores valid kd qm) sink)
        (broadcastTo S128x256 (denom (scores valid kd qm) sink) broadcasts_S128x1_S128x256))
      bitsLt_bf16_f32)
    vd (constant S128x128 .f32 0x00000000#32)

/-- The scaled queries of a lane pair. -/
def scaled (q : Vec F S128x128 .f32) : FVec F S128x128 .f32 :=
  mulf q (broadcast S128x128 (Scalar.ofBits .f32 0x3E000000#32))

/-- The two heads of a lane pair: the first in the lower half of the lanes, the second in the upper. -/
def pair (lo : IVec S128x128 1) (valid : IVec S128x256 1) (kd vd : FVec F S256x128 .bf16) (q : Vec F S128x128 .f32)
    (s0 s1 : F .f32) : FVec F S128x128 .f32 :=
  select lo
    (head valid kd vd (select lo (scaled q) (broadcast S128x128 (Scalar.ofBits .f32 0x00000000#32))) s0)
    (head valid kd vd
      (select (xori lo (constantI S128x128 1 1#1)) (scaled q) (broadcast S128x128 (Scalar.ofBits .f32 0x00000000#32))) s1)

/-- The row normalisation. -/
def norm (x : FVec F S128x1024 .f32) (g : Vec F S1x1024 .f32) : FVec F S128x1024 .bf16 :=
  truncf .bf16
    (mulf
      (mulf x
        (broadcastTo S128x1024
          (rsqrt (addf
            (divf
              (shapeCast S128x1 (multiReduction .add [1] S128 (mulf x x) 0x00000000#32 reduces_S128x1024_S128 (.inl rfl) rfl)
                shapeCasts_S128_S128x1)
              (broadcast S128x1 (Scalar.ofBits .f32 0x44800000#32)))
            (broadcast S128x1 (Scalar.ofBits .f32 0x3727C5AC#32))))
          broadcasts_S128x1_S128x1024))
      (broadcastTo S128x1024 (shapeCast S1x1024 g shapeCasts_S1x1024_S1x1024) broadcasts_S1x1024_S128x1024))
    bitsLt_bf16_f32

/-- The window of two blocks: the block before over the block at hand. -/
def window (prev cur : FVec F S128x128 .f32) : FVec F S256x128 .f32 :=
  concatenate S256x128 0 [⟨S128x128, prev⟩, ⟨S128x128, cur⟩] concatenates_S128x128_S128x128_S256x128_d0

/-- The window with its two lane halves exchanged. -/
def swapped (prev cur : FVec F S128x128 .f32) : FVec F S256x128 .f32 :=
  dynamicRotate 1 64#32 none (window prev cur) rotates_S256x128_d1

/-- The window with its lower lanes in both halves (group 0). -/
def group0 (prev cur : FVec F S128x128 .f32) : FVec F S256x128 .bf16 :=
  truncf .bf16 (select k0_pay101 (window prev cur) (swapped prev cur)) bitsLt_bf16_f32

/-- The window with its upper lanes in both halves (group 1). -/
def group1 (prev cur : FVec F S128x128 .f32) : FVec F S256x128 .bf16 :=
  truncf .bf16 (select k0_pay101 (swapped prev cur) (window prev cur)) bitsLt_bf16_f32

/-- Which of the window's positions a row of block `c` attends to. -/
def allowed (c : BitVec 32) : IVec S128x256 1 :=
  k0_pay103 c (iota .tc S128x256 32 [1] iota_S128x256_d1_w32) k0_pay102 0#32

/-- The sixteen heads of a block side by side. -/
def heads (c : BitVec 32) (kp kc vp vc : FVec F S128x128 .f32) (q0 q1 q2 q3 q4 q5 q6 q7 : Vec F S128x128 .f32)
    (s0 s1 s2 s3 s4 s5 s6 s7 s8 s9 s10 s11 s12 s13 s14 s15 : F .f32) :
    FVec F S128x1024 .f32 :=
  concatenate S128x1024 1
    [⟨S128x128, pair k0_pay24 (allowed c) (group0 kp kc) (group0 vp vc) q0 s0 s1⟩,
     ⟨S128x128, pair k0_pay24 (allowed c) (group0 kp kc) (group0 vp vc) q1 s2 s3⟩,
     ⟨S128x128, pair k0_pay24 (allowed c) (group0 kp kc) (group0 vp vc) q2 s4 s5⟩,
     ⟨S128x128, pair k0_pay24 (allowed c) (group0 kp kc) (group0 vp vc) q3 s6 s7⟩,
     ⟨S128x128, pair k0_pay24 (allowed c) (group1 kp kc) (group1 vp vc) q4 s8 s9⟩,
     ⟨S128x128, pair k0_pay24 (allowed c) (group1 kp kc) (group1 vp vc) q5 s10 s11⟩,
     ⟨S128x128, pair k0_pay24 (allowed c) (group1 kp kc) (group1 vp vc) q6 s12 s13⟩,
     ⟨S128x128, pair k0_pay24 (allowed c) (group1 kp kc) (group1 vp vc) q7 s14 s15⟩]
    concatenates_S128x128_S128x128_S128x128_S128x128_S128x128_S128x128_S128x128_S128x128_S128x1024_d1

/-- Head `n`'s sink, as the body reads it. -/
def sinkAt (s : Vec F S16 .f32) (off : Fin 1 → ℕ) (h : ∀ a, off a + S1.size a ≤ S16.size a) : F .f32 :=
  View.ld s (Rect.unit off S1.size h) (Shape.Idx.first (show 0 < S1.numel by decide))

/-- The attention half of what block `c` stores: the heads of its queries over the window of keys and values carried
    from the block before and its own, each row normalised. -/
def attBlock (c : BitVec 32) (kp vp : Vec F S128x128 .f32) (kv : Vec F S128x512 .f32) (q : Vec F S128x1024 .f32)
    (s : Vec F S16 .f32) (g : Vec F S1x1024 .f32) : FVec F S128x1024 .bf16 :=
  norm (heads c kp (k0_pay12 kv) vp (k0_pay13 kv)
    (View.ld q (Rect.unit ![0, 0] ![128, 128] inb_S128x1024_S128x128_0_0))
    (View.ld q (Rect.unit ![0, 128] ![128, 128] inb_S128x1024_S128x128_0_128))
    (View.ld q (Rect.unit ![0, 256] ![128, 128] inb_S128x1024_S128x128_0_256))
    (View.ld q (Rect.unit ![0, 384] ![128, 128] inb_S128x1024_S128x128_0_384))
    (View.ld q (Rect.unit ![0, 512] ![128, 128] inb_S128x1024_S128x128_0_512))
    (View.ld q (Rect.unit ![0, 640] ![128, 128] inb_S128x1024_S128x128_0_640))
    (View.ld q (Rect.unit ![0, 768] ![128, 128] inb_S128x1024_S128x128_0_768))
    (View.ld q (Rect.unit ![0, 896] ![128, 128] inb_S128x1024_S128x128_0_896))
    (sinkAt s ![0] inb_S16_S1_0) (sinkAt s ![1] inb_S16_S1_1) (sinkAt s ![2] inb_S16_S1_2) (sinkAt s ![3] inb_S16_S1_3)
    (sinkAt s ![4] inb_S16_S1_4) (sinkAt s ![5] inb_S16_S1_5) (sinkAt s ![6] inb_S16_S1_6) (sinkAt s ![7] inb_S16_S1_7)
    (sinkAt s ![8] inb_S16_S1_8) (sinkAt s ![9] inb_S16_S1_9) (sinkAt s ![10] inb_S16_S1_10) (sinkAt s ![11] inb_S16_S1_11)
    (sinkAt s ![12] inb_S16_S1_12) (sinkAt s ![13] inb_S16_S1_13) (sinkAt s ![14] inb_S16_S1_14) (sinkAt s ![15] inb_S16_S1_15)) g

end Cert.KernelIdeal.Mix
-- ==== Proof.AttBlock.lean ====
/- What each grid point leaves in the attention columns of its output block, and in the carried keys and values. -/
module

public import proofs.«01_k».proof.Proof.AttVec
public import proofs.«01_k».proof.Proof.Gen.KernelIdeal.Frame

@[expose] public section

set_option maxRecDepth 65536

noncomputable section

namespace Cert.KernelIdeal.Mix

open Cert.KernelIdeal Cert.KernelIdeal.Gen Idealize.ShloMosaic Idealize.ShloMosaic.TcCoe Idealize.SL.Sem

variable (m : (ℓ : Loc nD τ sig) → Buf (Elt Ideal) ℓ)

/-- Every point leaves its own block's keys for the next. -/
theorem carried_keys (c : Dev nD) (t : Fin cfg0.N) :
    (outsAt0 m c t.val t.isLt).2.2.2.1 = k0_pay12 (F := Ideal) (iblk m c 5 t) := by
  by_cases h0 : t.val % 32 = 0
  · rw [outsAt0_A m c t h0]
    frame_out
    funext i
    idx_vars i
    pointwise [k0_pay97]
  · rw [outsAt0_B m c t h0]
    frame_out
    funext i
    idx_vars i
    pointwise [k0_pay97]

/-- Every point leaves its own block's values for the next. -/
theorem carried_values (c : Dev nD) (t : Fin cfg0.N) :
    (outsAt0 m c t.val t.isLt).2.2.2.2 = k0_pay13 (F := Ideal) (iblk m c 5 t) := by
  by_cases h0 : t.val % 32 = 0
  · rw [outsAt0_A m c t h0]
    frame_out
    funext i
    idx_vars i
    pointwise [k0_pay98]
  · rw [outsAt0_B m c t h0]
    frame_out
    funext i
    idx_vars i
    pointwise [k0_pay98]

set_option maxHeartbeats 1600000 in
/-- At a later chunk of a sequence the attention columns are the block's attention over the carried keys and values. -/
theorem att_later (c : Dev nD) (t : Fin cfg0.N) (h0 : ¬t.val % 32 = 0) (i : S128x2048.Idx) (r : Fin 128) (x : Fin 1024)
    (hi0 : (i 0).val = r.val) (hi1 : (i 1).val = 1024 + x.val) :
    (outsAt0 m c t.val t.isLt).1 i = attBlock (F := Ideal) (BitVec.ofNat 32 (grid0.coords t 1))
      (outsAt0 m c (t.val - 1) (Nat.lt_of_le_of_lt (Nat.sub_le _ _) t.isLt)).2.2.2.1
      (outsAt0 m c (t.val - 1) (Nat.lt_of_le_of_lt (Nat.sub_le _ _) t.isLt)).2.2.2.2
      (iblk m c 5 t) (iblk m c 3 t) (iblk m c 0 t) (iblk m c 12 t) (ix2 r x) := by
  rw [outsAt0_B m c t h0]
  frame_out
  simp only [read_unread_whole]
  canon_tiles y hy
  case piece0 =>
    obtain rfl : y = ix2 r x := by
      idx_vars y
      rw [show y0 = r from Fin.ext (by omega), show y1 = x from Fin.ext (by omega)]
    rfl
  case piece1 =>
    exfalso
    have := y1_lt
    omega

set_option maxHeartbeats 1600000 in
/-- At the first chunk of a sequence the attention columns are the block's attention over a window whose first half is zero. -/
theorem att_first (c : Dev nD) (t : Fin cfg0.N) (h0 : t.val % 32 = 0) (i : S128x2048.Idx) (r : Fin 128) (x : Fin 1024)
    (hi0 : (i 0).val = r.val) (hi1 : (i 1).val = 1024 + x.val) :
    (outsAt0 m c t.val t.isLt).1 i = attBlock (F := Ideal) (BitVec.ofNat 32 (grid0.coords t 1))
      (k0_pay4 (F := Ideal)) (k0_pay5 (F := Ideal))
      (iblk m c 5 t) (iblk m c 3 t) (iblk m c 0 t) (iblk m c 12 t) (ix2 r x) := by
  rw [outsAt0_A m c t h0]
  frame_out
  canon_tiles y hy
  case piece0 =>
    obtain rfl : y = ix2 r x := by
      idx_vars y
      rw [show y0 = r from Fin.ext (by omega), show y1 = x from Fin.ext (by omega)]
    rfl
  case piece1 =>
    exfalso
    have := y1_lt
    omega

end Cert.KernelIdeal.Mix
-- ==== Proof.AttSpec.lean ====
/- The attention of one row, as extended-real arithmetic: a head's windowed softmax with a sink, and the row's
   normalisation. Both programs are shown to compute these. -/
module

public import Idealize.ShloMosaic.Lib.Pipeline.ValueKit
public import Idealize.ShloMosaic.Lib.Pointwise

@[expose] public section

noncomputable section

namespace Cert.Mix

open Idealize.ShloMosaic

/-- The score of a query against the window's key `j`: the scaled inner product where the window allows it, else `-∞`. -/
def score (q : Fin 64 → EReal) (k : Fin 256 → Fin 64 → EReal) (ok : Fin 256 → BitVec 1) (j : Fin 256) : EReal :=
  Scalar.select (ok j) (∑ d : Fin 64, q d * Ideal.ofBits FTy.f32 0x3E000000#32 * k j d) (Ideal.ofBits FTy.f32 0xFF800000#32)

/-- The largest of the scores and the sink. -/
def top (s : Fin 256 → EReal) (sink : EReal) : EReal :=
  max (Finset.fold max (Ideal.ofBits FTy.f32 0xFF800000#32) s Finset.univ) sink

/-- The weight of key `j`: the softmax over the scores and the sink. -/
def weight (s : Fin 256 → EReal) (sink : EReal) (j : Fin 256) : EReal :=
  Ideal.div (Ideal.exp (s j - top s sink)) ((∑ x : Fin 256, Ideal.exp (s x - top s sink)) + Ideal.exp (sink - top s sink))

/-- One head's output at lane `d`. -/
def headRow (q : Fin 64 → EReal) (k v : Fin 256 → Fin 64 → EReal) (ok : Fin 256 → BitVec 1) (sink : EReal) (d : Fin 64) : EReal :=
  ∑ j : Fin 256, weight (score q k ok) sink j * v j d

/-- The sixteen heads of a row side by side: head `h` reads its own 64 query lanes and its key group's 64 lanes. -/
def attRow (q : Fin 1024 → EReal) (k v : Fin 256 → Fin 128 → EReal) (ok : Fin 256 → BitVec 1) (sink : Fin 16 → EReal)
    (x : Fin 1024) : EReal :=
  headRow (fun d => q ⟨x.val / 64 * 64 + d.val, by omega⟩)
    (fun j d => k j ⟨x.val / 512 * 64 + d.val, by omega⟩) (fun j d => v j ⟨x.val / 512 * 64 + d.val, by omega⟩)
    ok (sink ⟨x.val / 64, by omega⟩) ⟨x.val % 64, by omega⟩

/-- A row divided by its root mean square, times the gain. -/
def normRow (x g : Fin 1024 → EReal) (j : Fin 1024) : EReal :=
  x j * Ideal.rsqrt (Ideal.div (∑ i : Fin 1024, x i * x i) (Ideal.ofBits FTy.f32 0x44800000#32)
    + Ideal.ofBits FTy.f32 0x3727C5AC#32) * g j

/-- Key (or value) `j` of the window of chunk `t`, at lane `d` of the 128 lanes that begin at column `o` of the rows `X`:
    the chunk before in the first half (nothing at a sequence's first chunk), the chunk itself in the second. -/
def keyAt (X : Fin 16384 → Fin 4096 → EReal) (o : ℕ) (ho : o + 128 ≤ 4096) (t : Fin 128) (j : Fin 256) (d : Fin 128) : EReal :=
  if j.val < 128 then
    if t.val % 32 = 0 then 0 else X ⟨(t.val - 1) * 128 + j.val % 128, by omega⟩ ⟨o + d.val, by omega⟩
  else X ⟨t.val * 128 + (j.val - 128), by omega⟩ ⟨o + d.val, by omega⟩

/-- The window: key `j` is at most 127 rows before row `r`, not after it, and not before the sequence's first chunk. -/
def okAt (c : BitVec 32) (r : Fin 128) (j : Fin 256) : BitVec 1 :=
  IntOp.andi
    (IntOp.andi (IntOp.cmpi .sge (IntOp.subi (IntOp.addi (BitVec.ofNat 32 r.val) 128#32) (BitVec.ofNat 32 j.val)) 0#32)
      (IntOp.cmpi .slt (IntOp.subi (IntOp.addi (BitVec.ofNat 32 r.val) 128#32) (BitVec.ofNat 32 j.val)) 128#32))
    (IntOp.ori (Scalar.cmpi .sgt c 0#32) (IntOp.cmpi .sge (BitVec.ofNat 32 j.val) 128#32))

/-- The normalised attention heads of row `r` of chunk `t`, from the rows of queries, keys and values. -/
def attOut (X : Fin 16384 → Fin 4096 → EReal) (s : Fin 16 → EReal) (g : Fin 1024 → EReal) (t r : Fin 128) : Fin 1024 → EReal :=
  normRow (attRow (fun j => X ⟨t.val * 128 + r.val, by omega⟩ ⟨2048 + j.val, by omega⟩) (keyAt X 3584 (by decide) t)
    (keyAt X 3712 (by decide) t) (okAt (BitVec.ofNat 32 (t.val % 32)) r) s) g

/-- A sum over 128 lanes is the sum over the lower 64 and the sum over the upper 64. -/
theorem sum_lanes (f : Fin 128 → EReal) :
    ∑ x : Fin 128, f x = (∑ d : Fin 64, f ⟨d.val, by omega⟩) + ∑ d : Fin 64, f ⟨64 + d.val, by omega⟩ :=
  Fin.sum_univ_add (a := 64) (b := 64) f

/-- A sum over 128 lanes that vanishes on the upper half is the sum over the lower half. -/
theorem sum_lower (f : Fin 128 → EReal) (h : ∀ d : Fin 64, f ⟨64 + d.val, by omega⟩ = 0) :
    ∑ x : Fin 128, f x = ∑ d : Fin 64, f ⟨d.val, by omega⟩ := by
  rw [sum_lanes, Finset.sum_eq_zero fun d _ => h d, add_zero]

/-- A sum over 128 lanes that vanishes on the lower half is the sum over the upper half. -/
theorem sum_upper (f : Fin 128 → EReal) (h : ∀ d : Fin 64, f ⟨d.val, by omega⟩ = 0) :
    ∑ x : Fin 128, f x = ∑ d : Fin 64, f ⟨64 + d.val, by omega⟩ := by
  rw [sum_lanes, Finset.sum_eq_zero fun d _ => h d, zero_add]

end Cert.Mix
-- ==== Proof.AttRead.lean ====
/- The attention half of one block, entry by entry, as the row arithmetic of `AttSpec`. -/
module

public import proofs.«01_k».proof.Proof.AttVec
public import proofs.«01_k».proof.Proof.AttSpec

@[expose] public section

set_option maxRecDepth 16384

noncomputable section

namespace Cert.KernelIdeal.Mix

open Cert.KernelIdeal Cert.KernelIdeal.Gen Idealize.ShloMosaic Idealize.SL.Sem Cert.Mix

theorem select_on (a b : EReal) : Scalar.select 1#1 a b = a := rfl
theorem select_off (a b : EReal) : Scalar.select 0#1 a b = b := rfl

theorem slt64 : ∀ x : Fin 128, IntOp.cmpi CmpIPredicate.slt (BitVec.ofNat 32 x.val) 64#32 = if x.val < 64 then 1#1 else 0#1 := by
  decide +kernel

/-- The lane mask is set on the lower half of the lanes. -/
theorem lo_at (r x : Fin 128) : k0_pay24 (ix2 r x) = if x.val < 64 then 1#1 else 0#1 := by
  pointwise [k0_pay24]
  exact slt64 x

/-- Its complement is set on the upper half. -/
theorem hi_at (r x : Fin 128) : xori k0_pay24 (constantI S128x128 1 1#1) (ix2 r x) = if x.val < 64 then 0#1 else 1#1 := by
  pointwise []
  rw [lo_at]
  split <;> rfl

/-- The scores' entries. -/
theorem scores_at (valid : IVec S128x256 1) (kd : FVec Ideal S256x128 .bf16) (qm : FVec Ideal S128x128 .f32)
    (r : Fin 128) (j : Fin 256) : scores (F := Ideal) valid kd qm (ix2 r j)
      = Scalar.select (valid (ix2 r j)) (∑ x : Fin 128, qm (ix2 r x) * kd (ix2 j x)) (Ideal.ofBits FTy.f32 0xFF800000#32) := by
  pointwise [scores]

/-- The masked queries' entries. -/
theorem masked_at (lo : IVec S128x128 1) (q : Vec Ideal S128x128 .f32) (r x : Fin 128) :
    select lo (scaled (F := Ideal) q) (broadcast S128x128 (Scalar.ofBits .f32 0x00000000#32)) (ix2 r x)
      = Scalar.select (lo (ix2 r x)) (q (ix2 r x) * Ideal.ofBits FTy.f32 0x3E000000#32) 0 := by
  pointwise [scaled]

/-- The queries kept on the lower lanes score as the lower head. -/
theorem scores_lower (valid : IVec S128x256 1) (kd : FVec Ideal S256x128 .bf16) (q : Vec Ideal S128x128 .f32)
    (r : Fin 128) (k : Fin 256 → Fin 64 → EReal) (hk : ∀ j (d : Fin 64), kd (ix2 j ⟨d.val, by omega⟩) = k j d) (j : Fin 256) :
    scores (F := Ideal) valid kd (select k0_pay24 (scaled q) (broadcast S128x128 (Scalar.ofBits .f32 0x00000000#32))) (ix2 r j)
      = score (fun d => q (ix2 r ⟨d.val, by omega⟩)) k (fun j => valid (ix2 r j)) j := by
  rw [scores_at, score, sum_lower]
  · congr 1
    refine Finset.sum_congr rfl fun d _ => ?_
    rw [masked_at, lo_at, if_pos d.isLt, hk]
    rfl
  · intro d
    rw [masked_at, lo_at, if_neg (show ¬ (64 + d.val < 64) by omega)]
    exact zero_mul _

/-- The queries kept on the upper lanes score as the upper head. -/
theorem scores_upper (valid : IVec S128x256 1) (kd : FVec Ideal S256x128 .bf16) (q : Vec Ideal S128x128 .f32)
    (r : Fin 128) (k : Fin 256 → Fin 64 → EReal) (hk : ∀ j (d : Fin 64), kd (ix2 j ⟨64 + d.val, by omega⟩) = k j d) (j : Fin 256) :
    scores (F := Ideal) valid kd
        (select (xori k0_pay24 (constantI S128x128 1 1#1)) (scaled q) (broadcast S128x128 (Scalar.ofBits .f32 0x00000000#32))) (ix2 r j)
      = score (fun d => q (ix2 r ⟨64 + d.val, by omega⟩)) k (fun j => valid (ix2 r j)) j := by
  rw [scores_at, score, sum_upper]
  · congr 1
    refine Finset.sum_congr rfl fun d _ => ?_
    rw [masked_at, hi_at, if_neg (show ¬ (64 + d.val < 64) by omega), hk]
    rfl
  · intro d
    rw [masked_at, hi_at, if_pos d.isLt]
    exact zero_mul _

/-- A head's entries, from its scores. -/
theorem head_at (valid : IVec S128x256 1) (kd vd : FVec Ideal S256x128 .bf16) (qm : FVec Ideal S128x128 .f32) (s : EReal)
    (r l : Fin 128) (S V : Fin 256 → EReal) (hS : ∀ j, scores (F := Ideal) valid kd qm (ix2 r j) = S j)
    (hV : ∀ j, vd (ix2 j l) = V j) :
    head (F := Ideal) valid kd vd qm s (ix2 r l) = ∑ j : Fin 256, weight S s j * V j := by
  have hp : peak (F := Ideal) (scores valid kd qm) s (ix2 r 0) = top S s := by
    pointwise [peak]
    simp only [hS, top]
  pointwise [head, expo, denom]
  simp only [hS, hV, hp, weight]

theorem pair_sel (lo : IVec S128x128 1) (valid : IVec S128x256 1) (kd vd : FVec Ideal S256x128 .bf16)
    (q : Vec Ideal S128x128 .f32) (s0 s1 : EReal) (i : S128x128.Idx) :
    pair (F := Ideal) lo valid kd vd q s0 s1 i = Scalar.select (lo i)
      (head (F := Ideal) valid kd vd (select lo (scaled q) (broadcast S128x128 (Scalar.ofBits .f32 0x00000000#32))) s0 i)
      (head (F := Ideal) valid kd vd
        (select (xori lo (constantI S128x128 1 1#1)) (scaled q) (broadcast S128x128 (Scalar.ofBits .f32 0x00000000#32))) s1 i) := rfl

/-- A lane pair's entries: lane `l` belongs to the pair's lower or upper head. -/
theorem pair_at (valid : IVec S128x256 1) (kd vd : FVec Ideal S256x128 .bf16) (q : Vec Ideal S128x128 .f32) (s0 s1 : EReal)
    (r l : Fin 128) (k v : Fin 256 → Fin 64 → EReal)
    (hk : ∀ j (x : Fin 128), kd (ix2 j x) = k j ⟨x.val % 64, by omega⟩)
    (hv : ∀ j (x : Fin 128), vd (ix2 j x) = v j ⟨x.val % 64, by omega⟩) :
    pair (F := Ideal) k0_pay24 valid kd vd q s0 s1 (ix2 r l)
      = headRow (fun d => q (ix2 r ⟨l.val / 64 * 64 + d.val, by omega⟩)) k v (fun j => valid (ix2 r j))
          (if l.val < 64 then s0 else s1) ⟨l.val % 64, by omega⟩ := by
  rw [pair_sel, lo_at]
  by_cases h : l.val < 64
  · rw [if_pos h, if_pos h, select_on]
    refine (head_at valid kd vd _ s0 r l _ _
      (scores_lower valid kd q r k fun j d => (hk j _).trans (congrArg (k j) (Fin.ext (by simp only; omega)))) (fun j => hv j l)).trans ?_
    have e : ∀ d : Fin 64, (⟨l.val / 64 * 64 + d.val, by omega⟩ : Fin 128) = ⟨d.val, by omega⟩ := fun d => Fin.ext (by simp only; omega)
    simp only [headRow, e]
  · rw [if_neg h, if_neg h, select_off]
    refine (head_at valid kd vd _ s1 r l _ _
      (scores_upper valid kd q r k fun j d => (hk j _).trans (congrArg (k j) (Fin.ext (by simp only; omega)))) (fun j => hv j l)).trans ?_
    have e : ∀ d : Fin 64, (⟨l.val / 64 * 64 + d.val, by omega⟩ : Fin 128) = ⟨64 + d.val, by omega⟩ := fun d => Fin.ext (by simp only; omega)
    simp only [headRow, e]

/-- Row `j` of the window, from the block before (the first 128) and the block at hand. -/
def win (p c : FVec Ideal S128x128 .f32) (j : Fin 256) (l : Fin 128) : EReal :=
  if h : j.val < 128 then p (ix2 ⟨j.val, h⟩ l) else c (ix2 ⟨j.val - 128, by omega⟩ l)

theorem window_at (p c : FVec Ideal S128x128 .f32) (j : Fin 256) (l : Fin 128) :
    window (F := Ideal) p c (ix2 j l) = win p c j l := by
  pointwise [window]
  rfl

theorem swapped_at (p c : FVec Ideal S128x128 .f32) (j : Fin 256) (l : Fin 128) :
    swapped (F := Ideal) p c (ix2 j l) = win p c j ⟨(l.val + 64) % 128, by omega⟩ := by
  pointwise [swapped]
  rw [window_at]
  exact congrArg (win p c j) (Fin.ext (by simp only; omega))

theorem lower_at (j : Fin 256) (x : Fin 128) : k0_pay101 (ix2 j x) = if x.val < 64 then 1#1 else 0#1 := by
  pointwise [k0_pay101]
  exact slt64 x

/-- Group 0's keys (or values): the window's lower lanes, twice. -/
theorem group0_at (p c : FVec Ideal S128x128 .f32) (j : Fin 256) (x : Fin 128) :
    group0 (F := Ideal) p c (ix2 j x) = win p c j ⟨x.val % 64, by omega⟩ := by
  pointwise [group0]
  rw [lower_at, window_at, swapped_at]
  by_cases h : x.val < 64
  · rw [if_pos h]
    exact congrArg (win p c j) (Fin.ext (by simp only; omega))
  · rw [if_neg h]
    exact congrArg (win p c j) (Fin.ext (by simp only; omega))

/-- Group 1's keys (or values): the window's upper lanes, twice. -/
theorem group1_at (p c : FVec Ideal S128x128 .f32) (j : Fin 256) (x : Fin 128) :
    group1 (F := Ideal) p c (ix2 j x) = win p c j ⟨64 + x.val % 64, by omega⟩ := by
  pointwise [group1]
  rw [lower_at, window_at, swapped_at]
  by_cases h : x.val < 64
  · rw [if_pos h]
    exact congrArg (win p c j) (Fin.ext (by simp only; omega))
  · rw [if_neg h]
    exact congrArg (win p c j) (Fin.ext (by simp only; omega))

/-- Eight lane tiles side by side read as one row `w`. -/
theorem cat_at (p0 p1 p2 p3 p4 p5 p6 p7 : FVec Ideal S128x128 .f32) (r : Fin 128) (x : Fin 1024) (w : Fin 1024 → EReal)
    (h0 : ∀ l : Fin 128, p0 (ix2 r l) = w ⟨l.val, by omega⟩)
    (h1 : ∀ l : Fin 128, p1 (ix2 r l) = w ⟨128 + l.val, by omega⟩)
    (h2 : ∀ l : Fin 128, p2 (ix2 r l) = w ⟨256 + l.val, by omega⟩)
    (h3 : ∀ l : Fin 128, p3 (ix2 r l) = w ⟨384 + l.val, by omega⟩)
    (h4 : ∀ l : Fin 128, p4 (ix2 r l) = w ⟨512 + l.val, by omega⟩)
    (h5 : ∀ l : Fin 128, p5 (ix2 r l) = w ⟨640 + l.val, by omega⟩)
    (h6 : ∀ l : Fin 128, p6 (ix2 r l) = w ⟨768 + l.val, by omega⟩)
    (h7 : ∀ l : Fin 128, p7 (ix2 r l) = w ⟨896 + l.val, by omega⟩) :
    concatenate S128x1024 1 [⟨S128x128, p0⟩, ⟨S128x128, p1⟩, ⟨S128x128, p2⟩, ⟨S128x128, p3⟩, ⟨S128x128, p4⟩,
      ⟨S128x128, p5⟩, ⟨S128x128, p6⟩, ⟨S128x128, p7⟩]
      concatenates_S128x128_S128x128_S128x128_S128x128_S128x128_S128x128_S128x128_S128x128_S128x1024_d1 (ix2 r x) = w x := by
  pointwise []
  by_cases c0 : x.val < 128
  · rw [dif_pos c0]
    exact (h0 _).trans (congrArg w (Fin.ext (by simp only)))
  rw [dif_neg c0]
  by_cases c1 : x.val - 128 < 128
  · rw [dif_pos c1]
    exact (h1 _).trans (congrArg w (Fin.ext (by simp only; omega)))
  rw [dif_neg c1]
  by_cases c2 : x.val - 128 - 128 < 128
  · rw [dif_pos c2]
    exact (h2 _).trans (congrArg w (Fin.ext (by simp only; omega)))
  rw [dif_neg c2]
  by_cases c3 : x.val - 128 - 128 - 128 < 128
  · rw [dif_pos c3]
    exact (h3 _).trans (congrArg w (Fin.ext (by simp only; omega)))
  rw [dif_neg c3]
  by_cases c4 : x.val - 128 - 128 - 128 - 128 < 128
  · rw [dif_pos c4]
    exact (h4 _).trans (congrArg w (Fin.ext (by simp only; omega)))
  rw [dif_neg c4]
  by_cases c5 : x.val - 128 - 128 - 128 - 128 - 128 < 128
  · rw [dif_pos c5]
    exact (h5 _).trans (congrArg w (Fin.ext (by simp only; omega)))
  rw [dif_neg c5]
  by_cases c6 : x.val - 128 - 128 - 128 - 128 - 128 - 128 < 128
  · rw [dif_pos c6]
    exact (h6 _).trans (congrArg w (Fin.ext (by simp only; omega)))
  rw [dif_neg c6]
  exact (h7 _).trans (congrArg w (Fin.ext (by simp only; omega)))

/-- The normalised rows' entries. -/
theorem norm_at (s : FVec Ideal S128x1024 .f32) (g : Vec Ideal S1x1024 .f32) (r : Fin 128) (x : Fin 1024) :
    norm (F := Ideal) s g (ix2 r x) = normRow (fun j => s (ix2 r j)) (fun j => g (ix2 0 j)) x := by
  pointwise [norm]
  rfl

/-- Lane pair `n` of the queries. -/
theorem qpair_at (q : Vec Ideal S128x1024 .f32) (n : ℕ) (hn : n + 128 ≤ 1024) (h : ∀ a, (![0, n] : Fin 2 → ℕ) a + S128x128.size a ≤ S128x1024.size a)
    (r l : Fin 128) : View.ld q (Rect.unit ![0, n] S128x128.size h) (ix2 r l) = q (ix2 r ⟨n + l.val, by omega⟩) := by
  pointwise []

theorem sinkAt_at (s : Vec Ideal S16 .f32) (n : ℕ) (hn : n < 16) (h : ∀ a, (![n] : Fin 1 → ℕ) a + S1.size a ≤ S16.size a) :
    sinkAt s ![n] h = s (ix1 ⟨n, hn⟩) := by
  unfold sinkAt
  pointwise []

/-- Tile `n` of key group 0: its lanes of the row's attention. -/
theorem tile0_at (c : BitVec 32) (kp kc vp vc : FVec Ideal S128x128 .f32) (q : Vec Ideal S128x1024 .f32) (s : Vec Ideal S16 .f32)
    (n o a b : ℕ) (hn : 0 ≤ n ∧ n < 4) (ho : o = 128 * n) (ha : a = 2 * n) (hb : b = 2 * n + 1)
    (hq : ∀ i, (![0, o] : Fin 2 → ℕ) i + S128x128.size i ≤ S128x1024.size i)
    (hsa : ∀ i, (![a] : Fin 1 → ℕ) i + S1.size i ≤ S16.size i) (hsb : ∀ i, (![b] : Fin 1 → ℕ) i + S1.size i ≤ S16.size i)
    (r l : Fin 128) :
    pair (F := Ideal) k0_pay24 (allowed c) (group0 kp kc) (group0 vp vc) (View.ld q (Rect.unit ![0, o] S128x128.size hq))
        (sinkAt s ![a] hsa) (sinkAt s ![b] hsb) (ix2 r l)
      = attRow (fun j => q (ix2 r j)) (win kp kc) (win vp vc) (fun j => allowed c (ix2 r j)) (fun h => s (ix1 h))
          ⟨o + l.val, by omega⟩ := by
  have hl := l.isLt
  rw [pair_at _ _ _ _ _ _ r l (fun j d => win kp kc j ⟨d.val, by omega⟩) (fun j d => win vp vc j ⟨d.val, by omega⟩)
    (fun j x => group0_at kp kc j x) (fun j x => group0_at vp vc j x), sinkAt_at s a (by omega), sinkAt_at s b (by omega), attRow]
  have e1 : (fun d : Fin 64 => View.ld q (Rect.unit ![0, o] S128x128.size hq) (ix2 r ⟨l.val / 64 * 64 + d.val, by omega⟩))
      = fun d : Fin 64 => q (ix2 r ⟨(o + l.val) / 64 * 64 + d.val, by omega⟩) := by
    funext d
    rw [qpair_at q o (by omega)]
    exact congrArg (fun j => q (ix2 r j)) (Fin.ext (by simp only; omega))
  have e2 : ∀ d : Fin 64, (⟨d.val, by omega⟩ : Fin 128) = ⟨(o + l.val) / 512 * 64 + d.val, by omega⟩ :=
    fun d => Fin.ext (by simp only; omega)
  have e3 : (if l.val < 64 then s (ix1 ⟨a, by omega⟩) else s (ix1 ⟨b, by omega⟩)) = s (ix1 ⟨(o + l.val) / 64, by omega⟩) := by
    split <;> exact congrArg (fun h => s (ix1 h)) (Fin.ext (by simp only; omega))
  have e4 : (⟨l.val % 64, by omega⟩ : Fin 64) = ⟨(o + l.val) % 64, by omega⟩ := Fin.ext (by simp only; omega)
  rw [e1, e3, e4]
  simp only [e2]

/-- Tile `n` of key group 1: its lanes of the row's attention. -/
theorem tile1_at (c : BitVec 32) (kp kc vp vc : FVec Ideal S128x128 .f32) (q : Vec Ideal S128x1024 .f32) (s : Vec Ideal S16 .f32)
    (n o a b : ℕ) (hn : 4 ≤ n ∧ n < 8) (ho : o = 128 * n) (ha : a = 2 * n) (hb : b = 2 * n + 1)
    (hq : ∀ i, (![0, o] : Fin 2 → ℕ) i + S128x128.size i ≤ S128x1024.size i)
    (hsa : ∀ i, (![a] : Fin 1 → ℕ) i + S1.size i ≤ S16.size i) (hsb : ∀ i, (![b] : Fin 1 → ℕ) i + S1.size i ≤ S16.size i)
    (r l : Fin 128) :
    pair (F := Ideal) k0_pay24 (allowed c) (group1 kp kc) (group1 vp vc) (View.ld q (Rect.unit ![0, o] S128x128.size hq))
        (sinkAt s ![a] hsa) (sinkAt s ![b] hsb) (ix2 r l)
      = attRow (fun j => q (ix2 r j)) (win kp kc) (win vp vc) (fun j => allowed c (ix2 r j)) (fun h => s (ix1 h))
          ⟨o + l.val, by omega⟩ := by
  have hl := l.isLt
  rw [pair_at _ _ _ _ _ _ r l (fun j d => win kp kc j ⟨64 + d.val, by omega⟩) (fun j d => win vp vc j ⟨64 + d.val, by omega⟩)
    (fun j x => group1_at kp kc j x) (fun j x => group1_at vp vc j x), sinkAt_at s a (by omega), sinkAt_at s b (by omega), attRow]
  have e1 : (fun d : Fin 64 => View.ld q (Rect.unit ![0, o] S128x128.size hq) (ix2 r ⟨l.val / 64 * 64 + d.val, by omega⟩))
      = fun d : Fin 64 => q (ix2 r ⟨(o + l.val) / 64 * 64 + d.val, by omega⟩) := by
    funext d
    rw [qpair_at q o (by omega)]
    exact congrArg (fun j => q (ix2 r j)) (Fin.ext (by simp only; omega))
  have e2 : ∀ d : Fin 64, (⟨64 + d.val, by omega⟩ : Fin 128) = ⟨(o + l.val) / 512 * 64 + d.val, by omega⟩ :=
    fun d => Fin.ext (by simp only; omega)
  have e3 : (if l.val < 64 then s (ix1 ⟨a, by omega⟩) else s (ix1 ⟨b, by omega⟩)) = s (ix1 ⟨(o + l.val) / 64, by omega⟩) := by
    split <;> exact congrArg (fun h => s (ix1 h)) (Fin.ext (by simp only; omega))
  have e4 : (⟨l.val % 64, by omega⟩ : Fin 64) = ⟨(o + l.val) % 64, by omega⟩ := Fin.ext (by simp only; omega)
  rw [e1, e3, e4]
  simp only [e2]

/-- The heads of a block, row by row. -/
theorem heads_at (c : BitVec 32) (kp vp : Vec Ideal S128x128 .f32) (kv : Vec Ideal S128x512 .f32) (q : Vec Ideal S128x1024 .f32)
    (s : Vec Ideal S16 .f32) (g : Vec Ideal S1x1024 .f32) (r : Fin 128) (x : Fin 1024) :
    attBlock (F := Ideal) c kp vp kv q s g (ix2 r x)
      = normRow (attRow (fun j => q (ix2 r j)) (win kp (k0_pay12 kv)) (win vp (k0_pay13 kv)) (fun j => allowed c (ix2 r j))
          (fun h => s (ix1 h))) (fun j => g (ix2 0 j)) x := by
  rw [attBlock, norm_at]
  refine congrFun (congrFun (congrArg normRow (funext fun j => ?_)) _) x
  rw [heads]
  refine cat_at _ _ _ _ _ _ _ _ r j _ (fun l => ?_) (fun l => ?_) (fun l => ?_) (fun l => ?_) (fun l => ?_) (fun l => ?_)
    (fun l => ?_) (fun l => ?_)
  · refine (tile0_at c kp _ vp _ q s 0 0 0 1 (by omega) rfl rfl rfl _ _ _ r l).trans (congrArg _ (Fin.ext ?_))
    exact Nat.zero_add _
  · refine (tile0_at c kp _ vp _ q s 1 128 2 3 (by omega) rfl rfl rfl _ _ _ r l).trans (congrArg _ (Fin.ext ?_))
    rfl
  · refine (tile0_at c kp _ vp _ q s 2 256 4 5 (by omega) rfl rfl rfl _ _ _ r l).trans (congrArg _ (Fin.ext ?_))
    rfl
  · refine (tile0_at c kp _ vp _ q s 3 384 6 7 (by omega) rfl rfl rfl _ _ _ r l).trans (congrArg _ (Fin.ext ?_))
    rfl
  · refine (tile1_at c kp _ vp _ q s 4 512 8 9 (by omega) rfl rfl rfl _ _ _ r l).trans (congrArg _ (Fin.ext ?_))
    rfl
  · refine (tile1_at c kp _ vp _ q s 5 640 10 11 (by omega) rfl rfl rfl _ _ _ r l).trans (congrArg _ (Fin.ext ?_))
    rfl
  · refine (tile1_at c kp _ vp _ q s 6 768 12 13 (by omega) rfl rfl rfl _ _ _ r l).trans (congrArg _ (Fin.ext ?_))
    rfl
  · refine (tile1_at c kp _ vp _ q s 7 896 14 15 (by omega) rfl rfl rfl _ _ _ r l).trans (congrArg _ (Fin.ext ?_))
    rfl

end Cert.KernelIdeal.Mix
-- ==== Proof.AttArray.lean ====
/- What the kernel's output array holds in the attention columns: the normalised heads of each row, in terms of the arguments. -/
module

public import proofs.«01_k».proof.Proof.AttBlock
public import proofs.«01_k».proof.Proof.AttRead
public import proofs.«01_k».proof.Proof.Gen.KernelIdeal.Value

@[expose] public section

set_option maxRecDepth 65536

noncomputable section

namespace Cert.KernelIdeal.Mix

open Cert.KernelIdeal Cert.KernelIdeal.Gen Idealize.ShloMosaic Idealize.ShloMosaic.TcCoe Idealize.SL.Sem
open Cert.Mix

variable (m : (ℓ : Loc nD τ sig) → Buf (Elt Ideal) ℓ)

/-- The index maps of the windows the attention reads, and the grid's coordinates. -/
theorem idx : ∀ t : Fin cfg0.N, win0_3.index t = ![t.val, 2] ∧ win0_5.index t = ![t.val, 7] ∧ win0_0.index t = ![0]
    ∧ win0_12.index t = ![0, 0] ∧ grid0.coords t 1 = t.val % 32 :=
  (by decide +kernel : ∀ t : Fin grid0.N, _)

/-- The rows of the projected activations. -/
abbrev rows (c : Dev nD) (n : Fin 16384) (k : Fin 4096) : EReal :=
  (show FVec Ideal S16384x4096 .f32 from m ((c.tc : Thread nD τ).loc main_arg0)) (ix2 n k)
/-- The sinks of the heads. -/
abbrev sinks (c : Dev nD) (h : Fin 16) : EReal :=
  (show FVec Ideal S16 .f32 from m ((c.tc : Thread nD τ).loc main_arg1)) (ix1 h)
/-- The gain of the attention's normalisation. -/
abbrev attGain (c : Dev nD) (j : Fin 1024) : EReal :=
  (show FVec Ideal S1024 .f32 from m ((c.tc : Thread nD τ).loc main_arg8)) (ix1 j)

theorem query_block (c : Dev nD) (t : Fin cfg0.N) (r : Fin 128) (j : Fin 1024) (h) :
    (show FVec Ideal S128x1024 .f32 from iblk m c 3 t) (ix2 r j) = rows m c ⟨t.val * 128 + r.val, h⟩ ⟨2048 + j.val, by omega⟩ := by
  blk_ext [iblk, V, idx t]

theorem kv_block (c : Dev nD) (t : Fin cfg0.N) (r : Fin 128) (j : Fin 512) (h) :
    (show FVec Ideal S128x512 .f32 from iblk m c 5 t) (ix2 r j) = rows m c ⟨t.val * 128 + r.val, h⟩ ⟨3584 + j.val, by omega⟩ := by
  blk_ext [iblk, V, idx t]

theorem sink_block (c : Dev nD) (t : Fin cfg0.N) (h : Fin 16) :
    (show FVec Ideal S16 .f32 from iblk m c 0 t) (ix1 h) = sinks m c h := by
  blk_ext [iblk, V, idx t]

theorem gain_block (c : Dev nD) (t : Fin cfg0.N) (j : Fin 1024) :
    (show FVec Ideal S1x1024 .f32 from iblk m c 12 t) (ix2 0 j) = attGain m c j := by
  have e : ((cfg0.win 12).blk t).view.emb (ix2 0 j) = ix2 0 j := by blk_ext [idx t]
  show V m c main_v10 (((cfg0.win 12).blk t).view.emb (ix2 0 j)) = _
  rw [e]
  unfold V
  simp only [hostOps0, hostOps0_1, hostOps0_2, hostOps0_3, hostOps0_4, hostOps0_5, hostOps0_6, List.flatten_cons, List.flatten_nil,
    List.cons_append, List.nil_append, List.append_nil]
  entry_read
  pointwise

theorem allowed_at (c : BitVec 32) (r : Fin 128) (j : Fin 256) : allowed c (ix2 r j) = okAt c r j := by
  pointwise [allowed, k0_pay103, k0_pay102]
  rfl

theorem zero_keys (r l : Fin 128) : k0_pay4 (F := Ideal) (ix2 r l) = 0 := by pointwise [k0_pay4]
theorem zero_values (r l : Fin 128) : k0_pay5 (F := Ideal) (ix2 r l) = 0 := by pointwise [k0_pay5]
theorem keys_part (v : FVec Ideal S128x512 .f32) (r l : Fin 128) : k0_pay12 (F := Ideal) v (ix2 r l) = v (ix2 r ⟨l.val, by omega⟩) := by
  pointwise [k0_pay12]
theorem values_part (v : FVec Ideal S128x512 .f32) (r l : Fin 128) : k0_pay13 (F := Ideal) v (ix2 r l) = v (ix2 r ⟨128 + l.val, by omega⟩) := by
  pointwise [k0_pay13]

/-- A window whose second half is a chunk's 128 lanes and whose first half is the chunk's before. -/
theorem win_eq (X : Fin 16384 → Fin 4096 → EReal) (o : ℕ) (ho : o + 128 ≤ 4096) (t : Fin 128) (p k : FVec Ideal S128x128 .f32)
    (hk : ∀ r l, k (ix2 r l) = X ⟨t.val * 128 + r.val, by omega⟩ ⟨o + l.val, by omega⟩)
    (hp : ∀ r l, p (ix2 r l) = if t.val % 32 = 0 then 0 else X ⟨(t.val - 1) * 128 + r.val, by omega⟩ ⟨o + l.val, by omega⟩) :
    win p k = keyAt X o ho t := by
  funext j d
  unfold win keyAt
  by_cases hj : j.val < 128
  · rw [dif_pos hj, if_pos hj, hp]
    exact congrArg (fun n => if t.val % 32 = 0 then 0 else X n _) (Fin.ext (by simp only; omega))
  · rw [dif_neg hj, if_neg hj, hk]

/-- The attention columns of the block a point leaves. -/
theorem att_block (c : Dev nD) (t : Fin cfg0.N) (ht : t.val < 128) (i : S128x2048.Idx) (r : Fin 128) (x : Fin 1024)
    (hi0 : (i 0).val = r.val) (hi1 : (i 1).val = 1024 + x.val) :
    (outsAt0 m c t.val t.isLt).1 i = attOut (rows m c) (sinks m c) (attGain m c) ⟨t.val, ht⟩ r x := by
  have key : ∀ kp vp : FVec Ideal S128x128 .f32,
      (∀ r l : Fin 128, kp (ix2 r l) = if t.val % 32 = 0 then 0 else rows m c ⟨(t.val - 1) * 128 + r.val, by omega⟩ ⟨3584 + l.val, by omega⟩) →
      (∀ r l : Fin 128, vp (ix2 r l) = if t.val % 32 = 0 then 0 else rows m c ⟨(t.val - 1) * 128 + r.val, by omega⟩ ⟨3712 + l.val, by omega⟩) →
      attBlock (F := Ideal) (BitVec.ofNat 32 (grid0.coords t 1)) kp vp (iblk m c 5 t) (iblk m c 3 t) (iblk m c 0 t) (iblk m c 12 t) (ix2 r x)
        = attOut (rows m c) (sinks m c) (attGain m c) ⟨t.val, ht⟩ r x := by
    intro kp vp hk hv
    rw [heads_at, attOut, (idx t).2.2.2.2]
    rw [win_eq (rows m c) 3584 (by decide) ⟨t.val, ht⟩ kp _ (fun r l => (keys_part _ r l).trans (kv_block m c t r _ _)) hk,
      win_eq (rows m c) 3712 (by decide) ⟨t.val, ht⟩ vp _ (fun r l => ((values_part _ r l).trans (kv_block m c t r _ (by omega))).trans
        (congrArg (rows m c _) (Fin.ext (show 3584 + (128 + l.val) = 3712 + l.val by omega)))) hv]
    rw [show (fun j => (show FVec Ideal S128x1024 .f32 from iblk m c 3 t) (ix2 r j)) = _ from funext fun j => query_block m c t r j (by omega),
      show (fun h => (show FVec Ideal S16 .f32 from iblk m c 0 t) (ix1 h)) = _ from funext fun h => sink_block m c t h,
      show (fun j => (show FVec Ideal S1x1024 .f32 from iblk m c 12 t) (ix2 0 j)) = _ from funext fun j => gain_block m c t j,
      show (fun j => allowed (BitVec.ofNat 32 (t.val % 32)) (ix2 r j)) = _ from funext fun j => allowed_at _ r j]
  by_cases h0 : t.val % 32 = 0
  · rw [att_first m c t h0 i r x hi0 hi1]
    exact key _ _ (fun r l => (zero_keys r l).trans (if_pos h0).symm) (fun r l => (zero_values r l).trans (if_pos h0).symm)
  · rw [att_later m c t h0 i r x hi0 hi1]
    have hs : t.val - 1 < cfg0.N := Nat.lt_of_le_of_lt (Nat.sub_le _ _) t.isLt
    refine key _ _ (fun r l => ?_) (fun r l => ?_)
    · rw [carried_keys m c ⟨t.val - 1, hs⟩, keys_part, if_neg h0]
      exact kv_block m c ⟨t.val - 1, hs⟩ r _ (by simp only; omega)
    · rw [carried_values m c ⟨t.val - 1, hs⟩, values_part, if_neg h0]
      exact (kv_block m c ⟨t.val - 1, hs⟩ r _ (by simp only; omega)).trans
        (congrArg (rows m c _) (Fin.ext (show 3584 + (128 + l.val) = 3712 + l.val by omega)))

/-- The kernel's array in column `k` of the upper half, in row `r` of chunk `t`. -/
theorem att_array (c : Dev nD) (t r : Fin 128) (k : Fin 2048) (hk : 1024 ≤ k.val) :
    (show FVec Ideal S16384x2048 .bf16 from Value.G13 m c) (ix2 ⟨t.val * 128 + r.val, by omega⟩ k)
      = attOut (rows m c) (sinks m c) (attGain m c) t r ⟨k.val - 1024, by omega⟩ := by
  have hN : cfg0.N = 128 := N_0
  have hp : Value.pt13Of (ix2 ⟨t.val * 128 + r.val, by omega⟩ k) = t.val := by
    show 1 * ((t.val * 128 + r.val) / 128 - 0) + 1 * (k.val / 2048 - 0) = t.val
    omega
  show Value.G13 m c (ix2 ⟨t.val * 128 + r.val, by omega⟩ k) = _
  unfold Value.G13
  rw [dif_pos (by rw [hp, hN]; exact t.isLt), Value.fold0_congr m c _ _ t.val (by omega) hp,
    ← Value.outsAt0_sweep m c t.val (by omega)]
  exact att_block m c ⟨t.val, by omega⟩ t.isLt _ r ⟨k.val - 1024, by omega⟩
    (show (t.val * 128 + r.val) % 128 = r.val by omega) (show k.val % 2048 = 1024 + (k.val - 1024) by omega)

end Cert.KernelIdeal.Mix
-- ==== Proof.AttRef.lean ====
/- What the attention reference computes at an entry: the normalised heads of the entry's row. -/
module

public import proofs.«01_k».proof.Proof.AttSpec
public import proofs.«01_k».proof.Proof.Gen.RefAttIdeal.Read
public import Idealize.ShloMosaic.Lib.KernelVsHost

@[expose] public section

set_option maxRecDepth 65536

noncomputable section

namespace Cert.RefAttIdeal.Mix

open Cert.RefAttIdeal Cert.RefAttIdeal.Gen Cert.RefAttIdeal.Read Idealize.ShloMosaic Idealize.ShloMosaic.TcCoe Idealize.SL.Sem
open Cert.Mix

variable (x0 : FVec Ideal S16384x4096 .f32) (x1 : FVec Ideal S16 .f32) (x8 : FVec Ideal S1024 .f32)

/-- The rows of the projected activations. -/
abbrev rows (n : Fin 16384) (k : Fin 4096) : EReal := x0 (ix2 n k)

/-- The windowed keys. -/
theorem keys_at (b : Fin 4) (c : Fin 32) (j : Fin 256) (g : Fin 2) (d : Fin 64) :
    val_main_v13 (F := Ideal) x0 (ix5 b c j g d)
      = keyAt (rows x0) 3584 (by decide) ⟨b.val * 32 + c.val, by omega⟩ j ⟨g.val * 64 + d.val, by omega⟩ := by
  pointwise [val_main_v13, val_main_v12, val_main_v11, val_main_v10, val_main_v9, val_main_v7, val_main_v2, val_main_v0, val_main_cst_0]
  unfold keyAt rows
  by_cases hj : j.val < 128
  · refine (dif_pos hj).trans (Eq.trans ?_ (if_pos hj).symm)
    by_cases hc : c.val < 1
    · exact (dif_pos hc).trans (if_pos (show (b.val * 32 + c.val) % 32 = 0 by omega)).symm
    · refine (dif_neg hc).trans (Eq.trans ?_ (if_neg (show ¬(b.val * 32 + c.val) % 32 = 0 by omega)).symm)
      exact congrArg x0 (congrArg₂ ix2 (Fin.ext (show b.val * 4096 + ((c.val - 1) * 128 + j.val)
        = (b.val * 32 + c.val - 1) * 128 + j.val % 128 by omega)) rfl)
  · refine (dif_neg hj).trans (Eq.trans ?_ (if_neg hj).symm)
    exact congrArg x0 (congrArg₂ ix2 (Fin.ext (show b.val * 4096 + (c.val * 128 + (j.val - 128))
      = (b.val * 32 + c.val) * 128 + (j.val - 128) by omega)) rfl)

/-- The windowed values. -/
theorem values_at (b : Fin 4) (c : Fin 32) (j : Fin 256) (g : Fin 2) (d : Fin 64) :
    val_main_v18 (F := Ideal) x0 (ix5 b c j g d)
      = keyAt (rows x0) 3712 (by decide) ⟨b.val * 32 + c.val, by omega⟩ j ⟨g.val * 64 + d.val, by omega⟩ := by
  pointwise [val_main_v18, val_main_v17, val_main_v16, val_main_v15, val_main_v14, val_main_v8, val_main_v3, val_main_v0, val_main_cst_1]
  unfold keyAt rows
  by_cases hj : j.val < 128
  · refine (dif_pos hj).trans (Eq.trans ?_ (if_pos hj).symm)
    by_cases hc : c.val < 1
    · exact (dif_pos hc).trans (if_pos (show (b.val * 32 + c.val) % 32 = 0 by omega)).symm
    · refine (dif_neg hc).trans (Eq.trans ?_ (if_neg (show ¬(b.val * 32 + c.val) % 32 = 0 by omega)).symm)
      exact congrArg x0 (congrArg₂ ix2 (Fin.ext (show b.val * 4096 + ((c.val - 1) * 128 + j.val)
        = (b.val * 32 + c.val - 1) * 128 + j.val % 128 by omega)) rfl)
  · refine (dif_neg hj).trans (Eq.trans ?_ (if_neg hj).symm)
    exact congrArg x0 (congrArg₂ ix2 (Fin.ext (show b.val * 4096 + (c.val * 128 + (j.val - 128))
      = (b.val * 32 + c.val) * 128 + (j.val - 128) by omega)) rfl)

/-- The mask of the window. -/
theorem mask_at (c : Fin 32) (r : Fin 128) (j : Fin 256) :
    val_main_v48 (F := Ideal) (ix3 c r j) = okAt (BitVec.ofNat 32 c.val) r j := by
  pointwise [val_main_v48, val_main_v47, val_main_v46, val_main_v45, val_main_v44, val_main_v43, val_main_v42, val_main_v41,
    val_main_v40, val_main_v39, val_main_v38, val_main_v37, val_main_v36, val_main_v35, val_main_v34, val_main_v33, val_main_v32,
    val_main_v31, val_main_v30, val_main_v29, val_main_v28, val_main_v27, val_main_v26, val_main_v25, val_main_v24, val_main_v23,
    val_main_v22, val_main_v21, val_main_c, val_main_c_2, val_main_c_3, val_main_c_4, val_main_c_5]
  rfl

/-- The scaled queries. -/
theorem query_at (b : Fin 4) (c : Fin 32) (r : Fin 128) (g : Fin 2) (h : Fin 8) (d : Fin 64) :
    val_main_v6 (F := Ideal) x0 (ix6 b c r g h d)
      = rows x0 ⟨(b.val * 32 + c.val) * 128 + r.val, by omega⟩ ⟨2048 + ((g.val * 8 + h.val) * 64 + d.val), by omega⟩
        * Ideal.ofBits FTy.f32 0x3E000000#32 := by
  pointwise [val_main_v6, val_main_v5, val_main_v4, val_main_v1, val_main_v0, val_main_cst]
  exact congrArg (· * _) (congrArg x0 (congrArg₂ ix2 (Fin.ext (by simp only; omega)) (Fin.ext (by simp only; omega))))

/-- The queries of a head, the keys and values of its group. -/
abbrev qh (b : Fin 4) (c : Fin 32) (r : Fin 128) (g : Fin 2) (h : Fin 8) (d : Fin 64) : EReal :=
  rows x0 ⟨(b.val * 32 + c.val) * 128 + r.val, by omega⟩ ⟨2048 + ((g.val * 8 + h.val) * 64 + d.val), by omega⟩
abbrev kh (b : Fin 4) (c : Fin 32) (g : Fin 2) (j : Fin 256) (d : Fin 64) : EReal :=
  keyAt (rows x0) 3584 (by decide) ⟨b.val * 32 + c.val, by omega⟩ j ⟨g.val * 64 + d.val, by omega⟩
abbrev vh (b : Fin 4) (c : Fin 32) (g : Fin 2) (j : Fin 256) (d : Fin 64) : EReal :=
  keyAt (rows x0) 3712 (by decide) ⟨b.val * 32 + c.val, by omega⟩ j ⟨g.val * 64 + d.val, by omega⟩

/-- The masked scores. -/
theorem scores_at (b : Fin 4) (c : Fin 32) (g : Fin 2) (h : Fin 8) (r : Fin 128) (j : Fin 256) :
    val_main_v50 (F := Ideal) x0 (ix6 b c g h r j)
      = score (qh x0 b c r g h) (kh x0 b c g) (okAt (BitVec.ofNat 32 c.val) r) j := by
  pointwise [val_main_v50, val_main_v49, val_main_v20, val_main_v19, val_main_call0_v2, val_main_call0_v1, val_main_call0_v0, val_main_cst_6]
  rw [mask_at, score]
  refine congrArg₂ (Scalar.select (okAt (BitVec.ofNat 32 c.val) r j)) (Finset.sum_congr rfl fun d _ => ?_) rfl
  rw [keys_at, query_at, mul_comm]

/-- A maximum over the last of six axes. -/
theorem fold_at (v : FVec Ideal S4x32x2x8x128x256 .f32) (b : Fin 4) (c : Fin 32) (g : Fin 2) (h : Fin 8) (r : Fin 128) :
    Host.reduce FloatOps.maximumf v (constant (F := Ideal) S_ .f32 0xFF800000#32) reducesTo_S4x32x2x8x128x256_S4x32x2x8x128_d5 h_S_
        (ix5 b c g h r)
      = Finset.fold max (Ideal.ofBits FTy.f32 0xFF800000#32) (fun j => v (ix6 b c g h r j)) Finset.univ := by
  rw [hostReduce_maximumf_eq_multiReduction v _ _ _ (by decide) (by decide) (by decide), Ideal.multiReduction_maximumf_single]
  refine congrArg (fun f => Finset.fold max (Ideal.ofBits FTy.f32 0xFF800000#32) f Finset.univ) (funext fun j => ?_)
  exact congrArg v (funext fun a => Fin.ext (by
    match a with | ⟨0, _⟩ => rfl | ⟨1, _⟩ => rfl | ⟨2, _⟩ => rfl | ⟨3, _⟩ => rfl | ⟨4, _⟩ => rfl | ⟨5, _⟩ => rfl))

/-- A sum over the last of six axes. -/
theorem total_at (v : FVec Ideal S4x32x2x8x128x256 .f32) (init : EReal) (b : Fin 4) (c : Fin 32) (g : Fin 2) (h : Fin 8) (r : Fin 128) :
    Ideal.hostReduceAdd reducesTo_S4x32x2x8x128x256_S4x32x2x8x128_d5 v init (ix5 b c g h r) = init + ∑ j : Fin 256, v (ix6 b c g h r j) := by
  rw [Ideal.hostReduceAdd_single _ (by decide)]
  refine congrArg (init + ·) (Finset.sum_congr rfl fun j _ => ?_)
  exact congrArg v (funext fun a => Fin.ext (by
    match a with | ⟨0, _⟩ => rfl | ⟨1, _⟩ => rfl | ⟨2, _⟩ => rfl | ⟨3, _⟩ => rfl | ⟨4, _⟩ => rfl | ⟨5, _⟩ => rfl))

/-- The largest of the scores and the sink. -/
theorem top_at (b : Fin 4) (c : Fin 32) (g : Fin 2) (h : Fin 8) (r : Fin 128) (z : Fin 1) :
    val_main_v56 (F := Ideal) x0 x1 (ix6 b c g h r z)
      = top (score (qh x0 b c r g h) (kh x0 b c g) (okAt (BitVec.ofNat 32 c.val) r)) (x1 (ix1 ⟨g.val * 8 + h.val, by omega⟩)) := by
  have e : ∀ j, val_main_v50 (F := Ideal) x0 (ix6 b c g h r j) = score (qh x0 b c r g h) (kh x0 b c g) (okAt (BitVec.ofNat 32 c.val) r) j :=
    fun j => scores_at x0 b c g h r j
  have f : val_main_v53 (F := Ideal) x0 (ix5 b c g h r) = Finset.fold max (Ideal.ofBits FTy.f32 0xFF800000#32)
      (score (qh x0 b c r g h) (kh x0 b c g) (okAt (BitVec.ofNat 32 c.val) r)) Finset.univ := by
    unfold val_main_v53 val_main_cst_7
    rw [fold_at]
    exact congrArg (fun f => Finset.fold max (Ideal.ofBits FTy.f32 0xFF800000#32) f Finset.univ) (funext e)
  have e1 : idx_main_v54 (ix6 b c g h r z) = ix5 b c g h r := funext fun a => by
    match a with | ⟨0, _⟩ => rfl | ⟨1, _⟩ => rfl | ⟨2, _⟩ => rfl | ⟨3, _⟩ => rfl | ⟨4, _⟩ => rfl
  have e2 : idx_main_v51 (idx_main_v52 (idx_main_v55 (ix6 b c g h r z))) = ix1 ⟨g.val * 8 + h.val, by omega⟩ := funext fun a => by
    match a with | ⟨0, _⟩ => exact Fin.ext (show g.val * 8 + h.val = g.val * 8 + h.val from rfl)
  rw [val_main_v56_apply, val_main_v54_apply, val_main_v55_apply, val_main_v52_apply, val_main_v51_apply, e1, e2, f, top]
  exact Ideal.maximumf_def _ _

/-- The exponentials of the scores. -/
theorem expo_at (b : Fin 4) (c : Fin 32) (g : Fin 2) (h : Fin 8) (r : Fin 128) (j : Fin 256) :
    val_main_v59 (F := Ideal) x0 x1 (ix6 b c g h r j)
      = Ideal.exp (score (qh x0 b c r g h) (kh x0 b c g) (okAt (BitVec.ofNat 32 c.val) r) j
        - top (score (qh x0 b c r g h) (kh x0 b c g) (okAt (BitVec.ofNat 32 c.val) r)) (x1 (ix1 ⟨g.val * 8 + h.val, by omega⟩))) := by
  pointwise [val_main_v59, val_main_v58, val_main_v57]
  rw [scores_at, top_at]

/-- Their sum. -/
theorem sum_at (b : Fin 4) (c : Fin 32) (g : Fin 2) (h : Fin 8) (r : Fin 128) :
    val_main_v60 (F := Ideal) x0 x1 (ix5 b c g h r)
      = ∑ j : Fin 256, Ideal.exp (score (qh x0 b c r g h) (kh x0 b c g) (okAt (BitVec.ofNat 32 c.val) r) j
        - top (score (qh x0 b c r g h) (kh x0 b c g) (okAt (BitVec.ofNat 32 c.val) r)) (x1 (ix1 ⟨g.val * 8 + h.val, by omega⟩))) := by
  refine (total_at (val_main_v59 (F := Ideal) x0 x1) _ b c g h r).trans ?_
  refine Eq.trans (congrArg₂ (· + ·) (show _ = (0 : EReal) from ?_) (Finset.sum_congr rfl fun j _ => expo_at x0 x1 b c g h r j)) (zero_add _)
  pointwise [val_main_cst_8]

/-- The softmax weights. -/
theorem weight_at (b : Fin 4) (c : Fin 32) (g : Fin 2) (h : Fin 8) (r : Fin 128) (j : Fin 256) :
    val_main_v67 (F := Ideal) x0 x1 (ix6 b c g h r j)
      = weight (score (qh x0 b c r g h) (kh x0 b c g) (okAt (BitVec.ofNat 32 c.val) r)) (x1 (ix1 ⟨g.val * 8 + h.val, by omega⟩)) j := by
  pointwise [val_main_v67, val_main_v66, val_main_v65, val_main_v64, val_main_v63, val_main_v62, val_main_v61,
    val_main_v52, val_main_v51]
  rw [expo_at, sum_at, top_at, weight]

/-- A head's output. -/
theorem head_at (b : Fin 4) (c : Fin 32) (g : Fin 2) (d : Fin 64) (h : Fin 8) (r : Fin 128) :
    val_main_v68 (F := Ideal) x0 x1 (ix6 b c g d h r)
      = headRow (qh x0 b c r g h) (kh x0 b c g) (vh x0 b c g) (okAt (BitVec.ofNat 32 c.val) r)
          (x1 (ix1 ⟨g.val * 8 + h.val, by omega⟩)) d := by
  pointwise [val_main_v68]
  rw [headRow]
  refine Finset.sum_congr rfl fun j _ => ?_
  rw [values_at, weight_at, mul_comm]

/-- The heads of a row side by side. -/
theorem heads_at (t r : Fin 128) (x : Fin 1024) :
    val_main_v70 (F := Ideal) x0 x1 (ix3 ⟨(t.val * 128 + r.val) / 4096, by omega⟩ ⟨(t.val * 128 + r.val) % 4096, by omega⟩ x)
      = attRow (fun j => rows x0 ⟨t.val * 128 + r.val, by omega⟩ ⟨2048 + j.val, by omega⟩) (keyAt (rows x0) 3584 (by decide) t)
          (keyAt (rows x0) 3712 (by decide) t) (okAt (BitVec.ofNat 32 (t.val % 32)) r) (fun h => x1 (ix1 h)) x := by
  pointwise [val_main_v70, val_main_v69]
  have hx := x.isLt
  have e0 : (⟨(t.val * 128 + r.val) / 4096, by omega⟩ : Fin 4) = ⟨t.val / 32, by omega⟩ := Fin.ext (by simp only; omega)
  have e1 : ∀ h, (⟨(t.val * 128 + r.val) % 4096 / 128, h⟩ : Fin 32) = ⟨t.val % 32, by omega⟩ := fun _ => Fin.ext (by simp only; omega)
  have e2 : ∀ h, (⟨(t.val * 128 + r.val) % 4096 % 128, h⟩ : Fin 128) = r := fun _ => Fin.ext (by simp only; omega)
  have e3 : (⟨t.val / 32 * 32 + t.val % 32, by omega⟩ : Fin 128) = t := Fin.ext (by simp only; omega)
  simp only [e0, e1, e2]
  rw [head_at, attRow]
  have hq : ∀ d : Fin 64, qh x0 ⟨t.val / 32, by omega⟩ ⟨t.val % 32, by omega⟩ r ⟨x.val / 512, by omega⟩ ⟨x.val / 64 % 8, by omega⟩ d
      = rows x0 ⟨t.val * 128 + r.val, by omega⟩ ⟨2048 + (x.val / 64 * 64 + d.val), by omega⟩ := fun d =>
    congrArg₂ (rows x0) (Fin.ext (show (t.val / 32 * 32 + t.val % 32) * 128 + r.val = _ by simp only; omega))
      (Fin.ext (show 2048 + ((x.val / 512 * 8 + x.val / 64 % 8) * 64 + d.val) = _ by simp only; omega))
  have hs : (⟨x.val / 512 * 8 + x.val / 64 % 8, by omega⟩ : Fin 16) = ⟨x.val / 64, by omega⟩ := Fin.ext (by simp only; omega)
  unfold kh vh
  simp only [e3]
  exact congrArg₂ (fun q s => headRow q _ _ _ (x1 (ix1 s)) _) (funext hq) hs

/-- The sum of the squares of a row. -/
theorem squares_at (y : FVec Ideal S4x4096x1024 .f32) (b : Fin 4) (n : Fin 4096) :
    Host.reduceAdd (mulf y y) (constant (F := Ideal) S_ .f32 0x00000000#32) reducesTo_S4x4096x1024_S4x4096_d2 h_S_ (ix2 b n)
      = ∑ x : Fin 1024, y (ix3 b n x) * y (ix3 b n x) := by
  pointwise

/-- The sum of the squares of the heads of a row. -/
theorem total_squares (b : Fin 4) (n : Fin 4096) :
    val_main_v72 (F := Ideal) x0 x1 (ix2 b n)
      = ∑ x : Fin 1024, val_main_v70 (F := Ideal) x0 x1 (ix3 b n x) * val_main_v70 (F := Ideal) x0 x1 (ix3 b n x) :=
  squares_at (val_main_v70 (F := Ideal) x0 x1) b n

/-- The normalised heads. -/
theorem normal_at (b : Fin 4) (n : Fin 4096) (x : Fin 1024) :
    val_main_v83 (F := Ideal) x0 x1 x8 (ix3 b n x)
      = normRow (fun x => val_main_v70 (F := Ideal) x0 x1 (ix3 b n x)) (fun j => x8 (ix1 j)) x := by
  have e1 : idx_main_v73 (idx_main_v79 (ix3 b n x)) = ix2 b n := funext fun a => by match a with | ⟨0, _⟩ => rfl | ⟨1, _⟩ => rfl
  have e2 : idx_main_v81 (idx_main_v82 (ix3 b n x)) = ix1 x := funext fun a => by match a with | ⟨0, _⟩ => rfl
  rw [val_main_v83_apply, val_main_v80_apply, val_main_v79_apply, val_main_v78_apply, val_main_v77_apply, val_main_v75_apply,
    val_main_v73_apply, val_main_v74_apply, val_main_v76_apply, val_main_v82_apply, val_main_v81_apply, e1, e2, total_squares,
    val_main_cst_10_apply, val_main_cst_11_apply, normRow]
  generalize val_main_v70 (F := Ideal) x0 x1 = y
  rfl

/-- The two halves side by side. -/
theorem halves_at (n : Fin 16384) (k : Fin 2048) (hk : 1024 ≤ k.val) :
    val_main_v87 (F := Ideal) x0 x1 x8 (ix2 n k)
      = val_main_v83 (F := Ideal) x0 x1 x8 (ix3 ⟨n.val / 4096, by omega⟩ ⟨n.val % 4096, by omega⟩ ⟨k.val - 1024, by omega⟩) := by
  unfold val_main_v87 val_main_v86 val_main_v85
  generalize val_main_v83 (F := Ideal) x0 x1 x8 = y
  pointwise
  exact dif_neg (by omega)

/-- The reference's entry in column `k` of the upper half, in row `r` of chunk `t`. -/
theorem att_at (t r : Fin 128) (k : Fin 2048) (hk : 1024 ≤ k.val) :
    val_main_v87 (F := Ideal) x0 x1 x8 (ix2 ⟨t.val * 128 + r.val, by omega⟩ k)
      = attOut (rows x0) (fun h => x1 (ix1 h)) (fun j => x8 (ix1 j)) t r ⟨k.val - 1024, by omega⟩ := by
  rw [halves_at x0 x1 x8 _ k hk, normal_at, attOut]
  exact congrArg (fun z => normRow z _ _) (funext fun x => heads_at x0 x1 t r x)

end Cert.RefAttIdeal.Mix
-- ==== Proof.AttClaim.lean ====
/- The attention columns of the kernel's result are the reference's. -/
module

public import proofs.«01_k».proof.Defs
public import proofs.«01_k».proof.Proof.AttArray
public import proofs.«01_k».proof.Proof.AttRef
public import proofs.«01_k».proof.Proof.Gen.On_att_columns

@[expose] public section

set_option maxRecDepth 65536

noncomputable section

namespace Cert.Mix

open Idealize.ShloMosaic Idealize.ShloMosaic.TcCoe Idealize.SL.Sem

/-- A column number not below 1024, compared as words. -/
theorem column_le (k : Fin 2048) (h : IntOp.cmpi CmpIPredicate.sge (BitVec.ofNat 32 k.val) 1024#32 = 1#1) :
    1024 ≤ k.val := by
  revert h
  revert k
  decide +kernel

/-- The mask selects the columns from 1024 on. -/
theorem att_mask (x0 : FVec Ideal ⟨2, ![16384, 4096]⟩ .f32) (x1 : FVec Ideal ⟨1, ![16]⟩ .f32) (x2 : FVec Ideal ⟨2, ![4, 1536]⟩ .f32)
    (x3 : FVec Ideal ⟨1, ![1536]⟩ .f32) (x4 x5 x6 : FVec Ideal ⟨1, ![16]⟩ .f32) (x7 x8 : FVec Ideal ⟨1, ![1024]⟩ .f32)
    (n : Fin 16384) (k : Fin 2048)
    (h : Cert.On_att_columns.fn (F := Ideal) x0 x1 x2 x3 x4 x5 x6 x7 x8 (ix2 n k) = 1#1) : 1024 ≤ k.val := by
  pointwise [Cert.On_att_columns.fn] at h
  exact column_le k h

/-- At each index the mask selects, the two results agree when the arguments do. -/
theorem att_same (m : (ℓ : Loc KernelIdeal.nD KernelIdeal.τ KernelIdeal.sig) → Buf (Elt Ideal) ℓ)
    (m' : (ℓ : Loc RefAttIdeal.nD RefAttIdeal.τ RefAttIdeal.sig) → Buf (Elt Ideal) ℓ) (c : Dev KernelIdeal.nD)
    (e0 : m' (c.tc.loc RefAttIdeal.main_arg0) = m (c.tc.loc KernelIdeal.main_arg0))
    (e1 : m' (c.tc.loc RefAttIdeal.main_arg1) = m (c.tc.loc KernelIdeal.main_arg1))
    (e8 : m' (c.tc.loc RefAttIdeal.main_arg8) = m (c.tc.loc KernelIdeal.main_arg8))
    (t r : Fin 128) (k : Fin 2048) (hk : 1024 ≤ k.val) :
    (show FVec Ideal ⟨2, ![16384, 2048]⟩ .bf16 from RefAttIdeal.Value.res_main_v87 m' c)
        (ix2 ⟨t.val * 128 + r.val, by omega⟩ k)
      = (show FVec Ideal ⟨2, ![16384, 2048]⟩ .bf16 from KernelIdeal.Value.G13 m c)
        (ix2 ⟨t.val * 128 + r.val, by omega⟩ k) := by
  have hr := KernelIdeal.Mix.att_array m c t r k hk
  have hl := RefAttIdeal.Mix.att_at (m' (c.tc.loc RefAttIdeal.main_arg0)) (m' (c.tc.loc RefAttIdeal.main_arg1))
    (m' (c.tc.loc RefAttIdeal.main_arg8)) t r k hk
  refine ((congrFun (RefAttIdeal.Read.val_main_v87_eq m' c) _).trans hl).trans (Eq.trans ?_ hr.symm)
  rw [e0, e1, e8]

/-- Where the mask is set, the kernel's result is the reference's. -/
theorem att_claim : algebraic_KernelIdeal_RefAttIdeal_on_att_columns := by
  pair_intro
  case refine_1 => exact fun c => KernelIdeal.Value.G13 m c
  · run_from Cert.KernelIdeal.Value.run m g
    exact fun _ _ => trivial
  · run_from Cert.RefAttIdeal.Value.run m' g'
    intro i hi
    obtain ⟨n, k, rfl⟩ : ∃ (n : Fin 16384) (k : Fin 2048), i = ix2 n k :=
      ⟨i 0, i 1, funext fun a => by match a with | ⟨0, _⟩ => rfl | ⟨1, _⟩ => rfl⟩
    have hk := att_mask _ _ _ _ _ _ _ _ _ n k hi
    have e : n = ⟨(⟨n.val / 128, by omega⟩ : Fin 128).val * 128 + (⟨n.val % 128, by omega⟩ : Fin 128).val, by
      have := n.isLt; show n.val / 128 * 128 + n.val % 128 < 16384; omega⟩ :=
      Fin.ext (show n.val = n.val / 128 * 128 + n.val % 128 by omega)
    rw [e]
    exact att_same m m' c (hagree c).1 (hagree c).2.1 (hagree c).2.2.2.2.2.2.2.2 _ _ k hk

end Cert.Mix
-- ==== Proof.ProjSpec.lean ====
/- The projections of the layer row by row, as extended-real arithmetic: the modulation, the modulated input projection,
   and the output projection with its normalisation. Both programs of each are shown to compute these. -/
module

public import Idealize.ShloMosaic.Lib.Pipeline.ValueKit
public import Idealize.ShloMosaic.Lib.Pointwise

@[expose] public section

noncomputable section

namespace Cert.Mix

open Idealize.ShloMosaic

/-- The modulation: the activated conditioning vector times the weights, plus the bias. -/
def modOut (C : Fin 8 → Fin 2048 → EReal) (W : Fin 2048 → Fin 12288 → EReal) (B : Fin 12288 → EReal)
    (i : Fin 8) (j : Fin 12288) : EReal :=
  (∑ k : Fin 2048, C i k * Ideal.logistic (C i k) * W k j) + B j

/-- The sequence of row `n`. -/
def seqOf (n : Fin 16384) : Fin 4 := ⟨n.val / 4096, by omega⟩

/-- A row scaled by one plus the modulation's columns from `p`, plus the modulation's columns from `o`. -/
def shifted (x : Fin 2048 → EReal) (M : Fin 12288 → EReal) (o p : ℕ) (ho : o + 2048 ≤ 12288) (hp : p + 2048 ≤ 12288)
    (k : Fin 2048) : EReal :=
  x k * (1 + M ⟨p + k.val, by omega⟩) + M ⟨o + k.val, by omega⟩

/-- The groups of the projection's 3856 columns in the order in which the mixer reads them, and zeros after them. -/
def grouped (f : Fin 3856 → EReal) (j : Fin 4096) : EReal :=
  if h : j.val < 1024 then f ⟨j.val, by omega⟩
  else if h : j.val < 2048 then f ⟨j.val, by omega⟩
  else if h : j.val < 3072 then f ⟨j.val + 528, by omega⟩
  else if h : j.val < 3584 then f ⟨j.val - 1024, by omega⟩
  else if h : j.val < 3712 then f ⟨j.val + 16, by omega⟩
  else if h : j.val < 3840 then f ⟨j.val + 16, by omega⟩
  else if h : j.val < 3856 then f ⟨j.val - 1280, by omega⟩
  else 0

/-- The groups, each found by the columns left after the groups before it. -/
theorem grouped_of_ladder (f : Fin 3856 → EReal) (z : EReal) (hz : z = 0) (j : Fin 4096) :
    (if h : j.val < 1024 then f ⟨j.val, by omega⟩
      else if h : j.val - 1024 < 1024 then f ⟨1024 + (j.val - 1024), by omega⟩
      else if h : j.val - 1024 - 1024 < 1024 then f ⟨2576 + (j.val - 1024 - 1024), by omega⟩
      else if h : j.val - 1024 - 1024 - 1024 < 512 then f ⟨1024 + (1024 + (j.val - 1024 - 1024 - 1024)), by omega⟩
      else if h : j.val - 1024 - 1024 - 1024 - 512 < 128 then f ⟨3600 + (j.val - 1024 - 1024 - 1024 - 512), by omega⟩
      else if h : j.val - 1024 - 1024 - 1024 - 512 - 128 < 128 then f ⟨3728 + (j.val - 1024 - 1024 - 1024 - 512 - 128), by omega⟩
      else if h : j.val - 1024 - 1024 - 1024 - 512 - 128 - 128 < 16 then
        f ⟨2560 + (j.val - 1024 - 1024 - 1024 - 512 - 128 - 128), by omega⟩
      else z) = grouped f j := by
  unfold grouped
  split_ifs <;> first
    | exact hz
    | exact congrArg f (Fin.ext (by first | (simp only; done) | (simp only; omega)))
    | (exfalso; omega)

theorem sum_grouped (x : Fin 2048 → EReal) (W : Fin 2048 → Fin 3856 → EReal) (j : Fin 4096) :
    ∑ k : Fin 2048, x k * grouped (W k) j = grouped (fun l => ∑ k : Fin 2048, x k * W k l) j := by
  unfold grouped
  split_ifs <;> first | rfl | exact Finset.sum_eq_zero fun k _ => mul_zero _

/-- The projection of the modulated rows. -/
def projOut (X : Fin 16384 → Fin 2048 → EReal) (M : Fin 4 → Fin 12288 → EReal) (W : Fin 2048 → Fin 3856 → EReal)
    (n : Fin 16384) (j : Fin 4096) : EReal :=
  grouped (fun l => ∑ k : Fin 2048, shifted (X n) (M (seqOf n)) 0 2048 (by decide) (by decide) k * W k l) j

/-- The row's mean. -/
def meanOf (z : Fin 2048 → EReal) : EReal := Ideal.div (∑ k : Fin 2048, z k) (Ideal.ofBits FTy.f32 0x45000000#32)

/-- A row with its mean taken off, divided by its standard deviation, times the gain, plus the bias. -/
def lnRow (z g b : Fin 2048 → EReal) (j : Fin 2048) : EReal :=
  (z j - meanOf z) * Ideal.rsqrt (meanOf (fun k => (z k - meanOf z) * (z k - meanOf z)) + Ideal.ofBits FTy.f32 0x3727C5AC#32) * g j + b j

/-- The residual sum: the input scaled, plus the gated product of the heads with the weights. -/
def resRow (y x : Fin 2048 → EReal) (W : Fin 2048 → Fin 2048 → EReal) (M : Fin 12288 → EReal) (j : Fin 2048) : EReal :=
  Ideal.ofBits FTy.f32 0x3F9837F0#32 * x j + M ⟨4096 + j.val, by omega⟩ * ∑ k : Fin 2048, y k * W k j

/-- The normalised residual sum of row `n`. -/
def normOut (Y X : Fin 16384 → Fin 2048 → EReal) (W : Fin 2048 → Fin 2048 → EReal) (M : Fin 4 → Fin 12288 → EReal)
    (g b : Fin 2048 → EReal) (n : Fin 16384) : Fin 2048 → EReal :=
  lnRow (resRow (Y n) (X n) W (M (seqOf n))) g b

/-- It, modulated. -/
def moduOut (Y X : Fin 16384 → Fin 2048 → EReal) (W : Fin 2048 → Fin 2048 → EReal) (M : Fin 4 → Fin 12288 → EReal)
    (g b : Fin 2048 → EReal) (n : Fin 16384) : Fin 2048 → EReal :=
  shifted (normOut Y X W M g b n) (M (seqOf n)) 6144 8192 (by decide) (by decide)

/-- The queries: its product with the query weights. -/
def queryOut (Y X : Fin 16384 → Fin 2048 → EReal) (W : Fin 2048 → Fin 2048 → EReal) (M : Fin 4 → Fin 12288 → EReal)
    (g b : Fin 2048 → EReal) (Q : Fin 2048 → Fin 2048 → EReal) (n : Fin 16384) (j : Fin 2048) : EReal :=
  ∑ k : Fin 2048, moduOut Y X W M g b n k * Q k j

end Cert.Mix
-- ==== Proof.AdaK.lean ====
/- What the modulation's kernel leaves in its result. -/
module

public import proofs.«01_k».proof.Proof.ProjSpec
public import proofs.«01_k».proof.Proof.Gen.AdaIdeal.Value

@[expose] public section

set_option maxRecDepth 65536

noncomputable section

namespace Cert.AdaIdeal.Mix

open Cert.AdaIdeal Cert.AdaIdeal.Gen Idealize.ShloMosaic Idealize.ShloMosaic.TcCoe Idealize.SL.Sem
open Cert.Mix

variable (m : (ℓ : Loc nD τ sig) → Buf (Elt Ideal) ℓ)

theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The conditioning vectors. -/
abbrev cond (c : Dev nD) (i : Fin 8) (k : Fin 2048) : EReal :=
  (show FVec Ideal S8x2048 .f32 from m ((c.tc : Thread nD τ).loc main_arg0)) (ix2 i k)
/-- The weights. -/
abbrev wts (c : Dev nD) (k : Fin 2048) (j : Fin 12288) : EReal :=
  (show FVec Ideal S2048x12288 .f32 from m ((c.tc : Thread nD τ).loc main_arg1)) (ix2 k j)
/-- The bias. -/
abbrev bias (c : Dev nD) (j : Fin 12288) : EReal :=
  (show FVec Ideal S12288 .f32 from m ((c.tc : Thread nD τ).loc main_arg2)) (ix1 j)

theorem cond_block (c : Dev nD) (t : Fin cfg0.N) (i : Fin 8) (k : Fin 2048) :
    (show FVec Ideal S8x2048 .f32 from iblk m c 0 t) (ix2 i k) = cond m c i k := by
  blk_ext [iblk, V, idx t]

theorem wts_block (c : Dev nD) (t : Fin cfg0.N) (k : Fin 2048) (j : Fin 1024) (h) :
    (show FVec Ideal S2048x1024 .f32 from iblk m c 1 t) (ix2 k j) = wts m c k ⟨t.val * 1024 + j.val, h⟩ := by
  blk_ext [iblk, V, idx t]

theorem bias_block (c : Dev nD) (t : Fin cfg0.N) (j : Fin 1024) (h) :
    (show FVec Ideal S1x1024 .f32 from iblk m c 2 t) (ix2 0 j) = bias m c ⟨t.val * 1024 + j.val, h⟩ := by
  have e : ((cfg0.win 2).blk t).view.emb (ix2 0 j) = ix2 0 ⟨t.val * 1024 + j.val, h⟩ := by blk_ext [idx t]
  show V m c main_v0 (((cfg0.win 2).blk t).view.emb (ix2 0 j)) = _
  rw [e]
  unfold V
  simp only [hostOps0, List.flatten_cons, List.flatten_nil,
    List.cons_append, List.nil_append, List.append_nil]
  entry_read
  pointwise

theorem pay_at (v0 : Vec Ideal S8x2048 .f32) (v1 : Vec Ideal S2048x1024 .f32) (v2 : Vec Ideal S1x1024 .f32) (i : Fin 8) (j : Fin 1024) :
    k0_pay1 (F := Ideal) v0 v1 v2 (ix2 i j)
      = (∑ k : Fin 2048, v0 (ix2 i k) * Ideal.logistic (v0 (ix2 i k)) * v1 (ix2 k j)) + v2 (ix2 0 j) := by
  pointwise [k0_pay1]

theorem point (c : Dev nD) (t : Fin cfg0.N) (y : S8x1024.Idx) :
    k0_pay1 (F := Ideal) (iblk m c 0 t) (iblk m c 1 t) (iblk m c 2 t) y
      = modOut (cond m c) (wts m c) (bias m c) ((((cfg0.win 3).blk t).view.emb y : S8x12288.Idx) 0)
          ((((cfg0.win 3).blk t).view.emb y : S8x12288.Idx) 1) := by
  have hN : cfg0.N = 12 := N_0
  have ht := t.isLt
  idx_vars y
  have e : ((cfg0.win 3).blk t).view.emb (ix2 y0 y1) = ix2 y0 ⟨t.val * 1024 + y1.val, by omega⟩ := by blk_ext [idx t]
  rw [e, pay_at]
  unfold modOut
  congr 1
  · exact Finset.sum_congr rfl fun k _ => congrArg₂ (· * ·)
      (congrArg₂ (· * ·) (cond_block m c t y0 k) (congrArg _ (cond_block m c t y0 k))) (wts_block m c t k y1 (by omega))
  · exact bias_block m c t y1 (by omega)

/-- The result array after the run. -/
theorem final (c : Dev nD) : (dats m 0 c).arrAt 3 cfg0.N
    = (fun i : S8x12288.Idx => modOut (cond m c) (wts m c) (bias m c) (i 0) (i 1)) := by
  refine (dats m 0 c).arrAt_eq_of_covers 3 _ (by decide +kernel) fun t _ y => ?_
  blk_simp
  rw [after0_3]
  frame_out
  exact point m c t y

end Cert.AdaIdeal.Mix
-- ==== Proof.AdaRef.lean ====
/- What the modulation's reference computes. -/
module

public import proofs.«01_k».proof.Proof.ProjSpec
public import proofs.«01_k».proof.Proof.Gen.RefAdaIdeal.Read

@[expose] public section

set_option maxRecDepth 65536

noncomputable section

namespace Cert.RefAdaIdeal.Mix

open Cert.RefAdaIdeal Cert.RefAdaIdeal.Read Idealize.ShloMosaic Idealize.ShloMosaic.TcCoe Idealize.SL.Sem
open Cert.Mix

theorem mod_at (x0 : FVec Ideal S8x2048 .f32) (x1 : FVec Ideal S2048x12288 .f32) (x2 : FVec Ideal S12288 .f32) (i : S8x12288.Idx) :
    val_main_v4 (F := Ideal) x0 x1 x2 i
      = modOut (fun i k => x0 (ix2 i k)) (fun k j => x1 (ix2 k j)) (fun j => x2 (ix1 j)) (i 0) (i 1) := by
  idx_vars i
  pointwise [val_main_v4, val_main_v3, val_main_v2, val_main_v1, val_main_v0, val_main_call0_v5, val_main_call0_v4, val_main_call0_v3,
    val_main_call0_v2, val_main_call0_v1, val_main_call0_v0, val_main_call0_cst, val_main_call0_cst_0]
  unfold modOut
  rfl

end Cert.RefAdaIdeal.Mix
-- ==== Proof.AdaClaim.lean ====
/- The modulation: the kernel's result is its reference's. -/
module

public import proofs.«01_k».proof.Defs
public import proofs.«01_k».proof.Proof.AdaK
public import proofs.«01_k».proof.Proof.AdaRef

@[expose] public section

set_option maxRecDepth 65536

noncomputable section

namespace Cert.Mix

open Idealize.ShloMosaic Idealize.ShloMosaic.TcCoe Idealize.SL.Sem

/-- The reference's value at the kernel's arguments is the kernel's result. -/
theorem ada_same (m : (ℓ : Loc AdaIdeal.nD AdaIdeal.τ AdaIdeal.sig) → Buf (Elt Ideal) ℓ) (c : Dev AdaIdeal.nD) :
    RefAdaIdeal.Read.val_main_v4 (F := Ideal) (m (c.tc.loc AdaIdeal.main_arg0)) (m (c.tc.loc AdaIdeal.main_arg1))
      (m (c.tc.loc AdaIdeal.main_arg2)) = (AdaIdeal.Gen.dats m 0 c).arrAt 3 AdaIdeal.cfg0.N := by
  rw [AdaIdeal.Mix.final]
  funext i
  exact RefAdaIdeal.Mix.mod_at _ _ _ i

/-- The kernel's result is the reference's. -/
theorem ada_claim : algebraic_AdaIdeal_RefAdaIdeal := by
  pair_intro
  · run_from Cert.AdaIdeal.Value.run_blocks m g
  · run_from Cert.RefAdaIdeal.Value.run m' g'
    exact ada_same m c

end Cert.Mix
-- ==== Proof.InprojK.lean ====
/- What the input projection's kernel leaves in its result. -/
module

public import proofs.«01_k».proof.Proof.ProjSpec
public import proofs.«01_k».proof.Proof.Gen.InprojIdeal.Value
public import Idealize.ShloMosaic.Lib.StableHlo.RunRead

@[expose] public section

set_option maxRecDepth 65536

noncomputable section

namespace Cert.InprojIdeal.Mix

open Cert.InprojIdeal Cert.InprojIdeal.Gen Idealize.ShloMosaic Idealize.ShloMosaic.TcCoe Idealize.SL.Sem
open Cert.Mix

variable (m : (ℓ : Loc nD τ sig) → Buf (Elt Ideal) ℓ)

theorem idx : ∀ t : Fin cfg0.N, win0_0.index t = ![t.val, 0] ∧ win0_1.index t = ![t.val / 8, 0, 0] ∧ win0_2.index t = ![t.val / 8, 0, 1]
    ∧ win0_3.index t = ![0, 0] ∧ win0_4.index t = ![t.val, 0] :=
  (by decide +kernel : ∀ t : Fin grid0.N, _)

/-- The rows. -/
abbrev rows (c : Dev nD) (n : Fin 16384) (k : Fin 2048) : EReal :=
  (show FVec Ideal S4x4096x2048 .f32 from m ((c.tc : Thread nD τ).loc main_arg0)) (ix3 ⟨n.val / 4096, by omega⟩ ⟨n.val % 4096, by omega⟩ k)
/-- The modulation of each sequence. -/
abbrev modu (c : Dev nD) (s : Fin 4) (j : Fin 12288) : EReal :=
  (show FVec Ideal S4x12288 .f32 from m ((c.tc : Thread nD τ).loc main_arg1)) (ix2 s j)
/-- The weights. -/
abbrev wts (c : Dev nD) (k : Fin 2048) (j : Fin 3856) : EReal :=
  (show FVec Ideal S2048x3856 .f32 from m ((c.tc : Thread nD τ).loc main_arg2)) (ix2 k j)

theorem rows_block (c : Dev nD) (t : Fin cfg0.N) (r : Fin 512) (k : Fin 2048) (h) :
    (show FVec Ideal S512x2048 .f32 from iblk m c 0 t) (ix2 r k) = rows m c ⟨t.val * 512 + r.val, h⟩ k := by
  have e : ((cfg0.win 0).blk t).view.emb (ix2 r k) = ix2 ⟨t.val * 512 + r.val, h⟩ k := by blk_ext [idx t]
  show V m c main_v0 (((cfg0.win 0).blk t).view.emb (ix2 r k)) = _
  rw [e]
  unfold V
  simp only [hostOps0, List.flatten_cons, List.flatten_nil,
    List.cons_append, List.nil_append, List.append_nil]
  entry_read
  pointwise

theorem shift_block (c : Dev nD) (t : Fin cfg0.N) (k : Fin 2048) (h) :
    (show FVec Ideal S1x1x2048 .f32 from iblk m c 1 t) (ix3 0 0 k) = modu m c ⟨t.val / 8, h⟩ ⟨0 + k.val, by omega⟩ := by
  have e : ((cfg0.win 1).blk t).view.emb (ix3 0 0 k) = ix3 ⟨t.val / 8, h⟩ 0 ⟨0 + k.val, by omega⟩ := by blk_ext [idx t]
  show V m c main_v1 (((cfg0.win 1).blk t).view.emb (ix3 0 0 k)) = _
  rw [e]
  unfold V
  simp only [hostOps0, List.flatten_cons, List.flatten_nil,
    List.cons_append, List.nil_append, List.append_nil]
  entry_read
  pointwise

theorem scale_block (c : Dev nD) (t : Fin cfg0.N) (k : Fin 2048) (h) :
    (show FVec Ideal S1x1x2048 .f32 from iblk m c 2 t) (ix3 0 0 k) = modu m c ⟨t.val / 8, h⟩ ⟨2048 + k.val, by omega⟩ := by
  have e : ((cfg0.win 2).blk t).view.emb (ix3 0 0 k) = ix3 ⟨t.val / 8, h⟩ 0 ⟨2048 + k.val, by omega⟩ := by blk_ext [idx t]
  show V m c main_v1 (((cfg0.win 2).blk t).view.emb (ix3 0 0 k)) = _
  rw [e]
  unfold V
  simp only [hostOps0, List.flatten_cons, List.flatten_nil,
    List.cons_append, List.nil_append, List.append_nil]
  entry_read
  pointwise

/-- The regrouping reads what the steps before it left. -/
theorem before_regroup (c : Dev nD) (r : Ref sig .tc) (h : r ≠ main_v11) :
    StableHlo.upto (hostOps0 (F := Ideal)) (fun b => m (c, b)) 12 (Proc.devRef .tc r) = V m c r := by
  have e := StableHlo.after_last_write (ops := hostOps0 (F := Ideal)) (i := 12) (r := r) [] rfl rfl (by simp) (fun b => m (c, b))
  exact (e.trans (StableHlo.nary_result_ne _ _ _ _ _ _ h)).symm

/-- The regrouped weights, as the groups beside one another. -/
theorem regroup (c : Dev nD) : (show FVec Ideal S2048x4096 .bf16 from V m c main_v11)
    = concatenate S2048x4096 1 [⟨S2048x1024, V m c main_v4⟩, ⟨S2048x1024, V m c main_v5⟩, ⟨S2048x1024, V m c main_v6⟩, ⟨S2048x512, V m c main_v7⟩, ⟨S2048x128, V m c main_v8⟩,
      ⟨S2048x128, V m c main_v9⟩, ⟨S2048x16, V m c main_v10⟩, ⟨S2048x240, V m c main_v3⟩]
      concatenates_S2048x1024_S2048x1024_S2048x1024_S2048x512_S2048x128_S2048x128_S2048x16_S2048x240_S2048x4096_d1 := by
  have e := StableHlo.after_last_write (ops := hostOps0 (F := Ideal)) (i := 12) (r := main_v11) [] rfl rfl (by simp) (fun b => m (c, b))
  refine (e.trans (StableHlo.nary_result _ _ _ _ _ _)).trans ?_
  rw [← before_regroup m c main_v4 (by decide)]
  rw [← before_regroup m c main_v5 (by decide)]
  rw [← before_regroup m c main_v6 (by decide)]
  rw [← before_regroup m c main_v7 (by decide)]
  rw [← before_regroup m c main_v8 (by decide)]
  rw [← before_regroup m c main_v9 (by decide)]
  rw [← before_regroup m c main_v10 (by decide)]
  rw [← before_regroup m c main_v3 (by decide)]
  rfl

theorem ladder_at (y0 y1 y2 : FVec Ideal S2048x1024 .bf16) (y3 : FVec Ideal S2048x512 .bf16) (y4 y5 : FVec Ideal S2048x128 .bf16)
    (y6 : FVec Ideal S2048x16 .bf16) (y7 : FVec Ideal S2048x240 .bf16) (k : Fin 2048) (j : Fin 4096) :
    concatenate S2048x4096 1 [⟨S2048x1024, y0⟩, ⟨S2048x1024, y1⟩, ⟨S2048x1024, y2⟩, ⟨S2048x512, y3⟩, ⟨S2048x128, y4⟩,
      ⟨S2048x128, y5⟩, ⟨S2048x16, y6⟩, ⟨S2048x240, y7⟩]
      concatenates_S2048x1024_S2048x1024_S2048x1024_S2048x512_S2048x128_S2048x128_S2048x16_S2048x240_S2048x4096_d1 (ix2 k j)
    = if h : j.val < 1024 then y0 (ix2 k ⟨j.val, by omega⟩)
      else if h : j.val - 1024 < 1024 then y1 (ix2 k ⟨j.val - 1024, by omega⟩)
      else if h : j.val - 1024 - 1024 < 1024 then y2 (ix2 k ⟨j.val - 1024 - 1024, by omega⟩)
      else if h : j.val - 1024 - 1024 - 1024 < 512 then y3 (ix2 k ⟨j.val - 1024 - 1024 - 1024, by omega⟩)
      else if h : j.val - 1024 - 1024 - 1024 - 512 < 128 then y4 (ix2 k ⟨j.val - 1024 - 1024 - 1024 - 512, by omega⟩)
      else if h : j.val - 1024 - 1024 - 1024 - 512 - 128 < 128 then y5 (ix2 k ⟨j.val - 1024 - 1024 - 1024 - 512 - 128, by omega⟩)
      else if h : j.val - 1024 - 1024 - 1024 - 512 - 128 - 128 < 16 then
        y6 (ix2 k ⟨j.val - 1024 - 1024 - 1024 - 512 - 128 - 128, by omega⟩)
      else y7 (ix2 k ⟨j.val - 1024 - 1024 - 1024 - 512 - 128 - 128 - 16, by omega⟩) := by
  pointwise

theorem piece_v4 (c : Dev nD) (k : Fin 2048) (j : Fin 1024) (h) :
    (show FVec Ideal S2048x1024 .bf16 from V m c main_v4) (ix2 k j) = wts m c k ⟨j.val, h⟩ := by
  show V m c main_v4 (ix2 k j) = _
  unfold V
  simp only [hostOps0, List.flatten_cons, List.flatten_nil,
    List.cons_append, List.nil_append, List.append_nil]
  entry_read
  pointwise

theorem piece_v5 (c : Dev nD) (k : Fin 2048) (j : Fin 1024) (h) :
    (show FVec Ideal S2048x1024 .bf16 from V m c main_v5) (ix2 k j) = wts m c k ⟨1024 + j.val, h⟩ := by
  show V m c main_v5 (ix2 k j) = _
  unfold V
  simp only [hostOps0, List.flatten_cons, List.flatten_nil,
    List.cons_append, List.nil_append, List.append_nil]
  entry_read
  pointwise

theorem piece_v6 (c : Dev nD) (k : Fin 2048) (j : Fin 1024) (h) :
    (show FVec Ideal S2048x1024 .bf16 from V m c main_v6) (ix2 k j) = wts m c k ⟨2576 + j.val, h⟩ := by
  show V m c main_v6 (ix2 k j) = _
  unfold V
  simp only [hostOps0, List.flatten_cons, List.flatten_nil,
    List.cons_append, List.nil_append, List.append_nil]
  entry_read
  pointwise

theorem piece_v7 (c : Dev nD) (k : Fin 2048) (j : Fin 512) (h) :
    (show FVec Ideal S2048x512 .bf16 from V m c main_v7) (ix2 k j) = wts m c k ⟨1024 + (1024 + j.val), h⟩ := by
  show V m c main_v7 (ix2 k j) = _
  unfold V
  simp only [hostOps0, List.flatten_cons, List.flatten_nil,
    List.cons_append, List.nil_append, List.append_nil]
  entry_read
  pointwise
  exact congrArg (wts m c k) (Fin.ext (by simp only; omega))

theorem piece_v8 (c : Dev nD) (k : Fin 2048) (j : Fin 128) (h) :
    (show FVec Ideal S2048x128 .bf16 from V m c main_v8) (ix2 k j) = wts m c k ⟨3600 + j.val, h⟩ := by
  show V m c main_v8 (ix2 k j) = _
  unfold V
  simp only [hostOps0, List.flatten_cons, List.flatten_nil,
    List.cons_append, List.nil_append, List.append_nil]
  entry_read
  pointwise

theorem piece_v9 (c : Dev nD) (k : Fin 2048) (j : Fin 128) (h) :
    (show FVec Ideal S2048x128 .bf16 from V m c main_v9) (ix2 k j) = wts m c k ⟨3728 + j.val, h⟩ := by
  show V m c main_v9 (ix2 k j) = _
  unfold V
  simp only [hostOps0, List.flatten_cons, List.flatten_nil,
    List.cons_append, List.nil_append, List.append_nil]
  entry_read
  pointwise

theorem piece_v10 (c : Dev nD) (k : Fin 2048) (j : Fin 16) (h) :
    (show FVec Ideal S2048x16 .bf16 from V m c main_v10) (ix2 k j) = wts m c k ⟨2560 + j.val, h⟩ := by
  show V m c main_v10 (ix2 k j) = _
  unfold V
  simp only [hostOps0, List.flatten_cons, List.flatten_nil,
    List.cons_append, List.nil_append, List.append_nil]
  entry_read
  pointwise

theorem piece_v3 (c : Dev nD) (k : Fin 2048) (j : Fin 240) :
    (show FVec Ideal S2048x240 .bf16 from V m c main_v3) (ix2 k j) = 0 := by
  show V m c main_v3 (ix2 k j) = _
  unfold V
  simp only [hostOps0, List.flatten_cons, List.flatten_nil,
    List.cons_append, List.nil_append, List.append_nil]
  entry_read
  pointwise

/-- The regrouped weights. -/
theorem wts_block (c : Dev nD) (t : Fin cfg0.N) (k : Fin 2048) (j : Fin 4096) :
    (show FVec Ideal S2048x4096 .bf16 from iblk m c 3 t) (ix2 k j) = grouped (wts m c k) j := by
  have e : ((cfg0.win 3).blk t).view.emb (ix2 k j) = ix2 k j := by blk_ext [idx t]
  show V m c main_v11 (((cfg0.win 3).blk t).view.emb (ix2 k j)) = _
  rw [e, ← grouped_of_ladder (wts m c k) 0 rfl j]
  refine (congrFun (regroup m c) (ix2 k j)).trans ((ladder_at _ _ _ _ _ _ _ _ k j).trans ?_)
  refine dite_congr rfl (fun h => piece_v4 m c k _ _) fun _ => ?_
  refine dite_congr rfl (fun h => piece_v5 m c k _ _) fun _ => ?_
  refine dite_congr rfl (fun h => piece_v6 m c k _ _) fun _ => ?_
  refine dite_congr rfl (fun h => piece_v7 m c k _ _) fun _ => ?_
  refine dite_congr rfl (fun h => piece_v8 m c k _ _) fun _ => ?_
  refine dite_congr rfl (fun h => piece_v9 m c k _ _) fun _ => ?_
  exact dite_congr rfl (fun h => piece_v10 m c k _ _) fun _ => piece_v3 m c k _

/-- The modulated rows of a block. -/
theorem pay1_at (v0 : Vec Ideal S512x2048 .f32) (v2 v8 : Vec Ideal S1x1x2048 .f32) (r : Fin 512) (k : Fin 2048) :
    k0_pay1 (F := Ideal) v0 v2 v8 (ix2 r k) = v0 (ix2 r k) * (1 + v2 (ix3 0 0 k)) + v8 (ix3 0 0 k) := by
  pointwise [k0_pay1]

theorem pay2_at (v0 : Vec Ideal S512x2048 .f32) (v2 v8 : Vec Ideal S1x1x2048 .f32) (w : Vec Ideal S2048x1024 .bf16) (r : Fin 512) (j : Fin 1024) :
    k0_pay2 (F := Ideal) v0 v2 v8 w (ix2 r j) = ∑ k : Fin 2048, (v0 (ix2 r k) * (1 + v2 (ix3 0 0 k)) + v8 (ix3 0 0 k)) * w (ix2 k j) := by
  pointwise [k0_pay2, k0_pay1]

theorem pay3_at (v0 : Vec Ideal S512x2048 .f32) (v2 v8 : Vec Ideal S1x1x2048 .f32) (w : Vec Ideal S2048x1024 .bf16) (r : Fin 512) (j : Fin 1024) :
    k0_pay3 (F := Ideal) v0 v2 v8 w (ix2 r j) = ∑ k : Fin 2048, (v0 (ix2 r k) * (1 + v2 (ix3 0 0 k)) + v8 (ix3 0 0 k)) * w (ix2 k j) := by
  pointwise [k0_pay3, k0_pay1]

theorem pay4_at (v0 : Vec Ideal S512x2048 .f32) (v2 v8 : Vec Ideal S1x1x2048 .f32) (w : Vec Ideal S2048x1024 .bf16) (r : Fin 512) (j : Fin 1024) :
    k0_pay4 (F := Ideal) v0 v2 v8 w (ix2 r j) = ∑ k : Fin 2048, (v0 (ix2 r k) * (1 + v2 (ix3 0 0 k)) + v8 (ix3 0 0 k)) * w (ix2 k j) := by
  pointwise [k0_pay4, k0_pay1]

theorem pay5_at (v0 : Vec Ideal S512x2048 .f32) (v2 v8 : Vec Ideal S1x1x2048 .f32) (w : Vec Ideal S2048x1024 .bf16) (r : Fin 512) (j : Fin 1024) :
    k0_pay5 (F := Ideal) v0 v2 v8 w (ix2 r j) = ∑ k : Fin 2048, (v0 (ix2 r k) * (1 + v2 (ix3 0 0 k)) + v8 (ix3 0 0 k)) * w (ix2 k j) := by
  pointwise [k0_pay5, k0_pay1]

/-- A sum over a block's row is the row's entry of the projection. -/
theorem row_at (c : Dev nD) (t : Fin cfg0.N) (r : Fin 512) (j : Fin 4096) (h) :
    ∑ k : Fin 2048, ((show FVec Ideal S512x2048 .f32 from iblk m c 0 t) (ix2 r k)
        * (1 + (show FVec Ideal S1x1x2048 .f32 from iblk m c 2 t) (ix3 0 0 k))
        + (show FVec Ideal S1x1x2048 .f32 from iblk m c 1 t) (ix3 0 0 k))
        * (show FVec Ideal S2048x4096 .bf16 from iblk m c 3 t) (ix2 k j)
      = projOut (rows m c) (modu m c) (wts m c) ⟨t.val * 512 + r.val, h⟩ j := by
  have hN : cfg0.N = 32 := N_0
  have ht := t.isLt
  have hs : seqOf ⟨t.val * 512 + r.val, h⟩ = ⟨t.val / 8, by omega⟩ := Fin.ext (by show (t.val * 512 + r.val) / 4096 = t.val / 8; omega)
  unfold projOut
  rw [← sum_grouped, hs]
  refine Finset.sum_congr rfl fun k _ => congrArg₂ (· * ·) ?_ (wts_block m c t k j)
  exact congrArg₂ (· + ·) (congrArg₂ (· * ·) (rows_block m c t r k h) (congrArg (1 + ·) (scale_block m c t k (by omega))))
    (shift_block m c t k (by omega))

/-- A load of some of the weights' columns. -/
theorem load_at (w : Vec Ideal S2048x4096 .bf16) (o : ℕ) (h) (k : Fin 2048) (z : Fin 1024) (y : Fin 4096) (hy : y.val = o + z.val) :
    View.ld w (Rect.unit ![0, o] S2048x1024.size h) (ix2 k z) = w (ix2 k y) :=
  View.ld_unit_apply_of _ _ _ _ _ _ fun a => match a with
    | ⟨0, _⟩ => by show k.val = 0 + k.val; omega
    | ⟨1, _⟩ => hy

/-- What the body leaves in its result's block. -/
theorem point (c : Dev nD) (t : Fin cfg0.N) (y : S512x4096.Idx) :
    out0_4 (F := Ideal) (iblk m c 0 t) (iblk m c 1 t) (iblk m c 2 t) (iblk m c 3 t) y
      = projOut (rows m c) (modu m c) (wts m c) ((((cfg0.win 4).blk t).view.emb y : S16384x4096.Idx) 0)
          ((((cfg0.win 4).blk t).view.emb y : S16384x4096.Idx) 1) := by
  have hN : cfg0.N = 32 := N_0
  have ht := t.isLt
  idx_vars y
  have e : ((cfg0.win 4).blk t).view.emb (ix2 y0 y1) = ix2 ⟨t.val * 512 + y0.val, by omega⟩ y1 := by blk_ext [idx t]
  rw [e]
  refine Eq.trans ?_ (row_at m c t y0 y1 _)
  frame_out
  canon_tiles z hz
  all_goals idx_vars z
  case piece0 =>
    obtain rfl : z0 = y0 := Fin.ext hz0.symm
    refine (pay5_at _ _ _ _ _ _).trans (Finset.sum_congr rfl fun k _ => ?_)
    exact congrArg₂ (· * ·) rfl (load_at _ _ _ k z1 y1 (by omega))
  case piece1 =>
    obtain rfl : z0 = y0 := Fin.ext hz0.symm
    refine (pay4_at _ _ _ _ _ _).trans (Finset.sum_congr rfl fun k _ => ?_)
    exact congrArg₂ (· * ·) rfl (load_at _ _ _ k z1 y1 (by omega))
  case piece2 =>
    obtain rfl : z0 = y0 := Fin.ext hz0.symm
    refine (pay3_at _ _ _ _ _ _).trans (Finset.sum_congr rfl fun k _ => ?_)
    exact congrArg₂ (· * ·) rfl (load_at _ _ _ k z1 y1 (by omega))
  case piece3 =>
    obtain rfl : z0 = y0 := Fin.ext hz0.symm
    refine (pay2_at _ _ _ _ _ _).trans (Finset.sum_congr rfl fun k _ => ?_)
    exact congrArg₂ (· * ·) rfl (load_at _ _ _ k z1 y1 (by omega))

/-- The result array after the run. -/
theorem final (c : Dev nD) : (dats m 0 c).arrAt 4 cfg0.N
    = (fun i : S16384x4096.Idx => projOut (rows m c) (modu m c) (wts m c) (i 0) (i 1)) := by
  refine (dats m 0 c).arrAt_eq_of_covers 4 _ (by decide +kernel) fun t _ y => ?_
  blk_simp
  rw [after0_4]
  exact point m c t y

end Cert.InprojIdeal.Mix
-- ==== Proof.InprojRef.lean ====
/- What the input projection's reference computes. -/
module

public import proofs.«01_k».proof.Proof.ProjSpec
public import proofs.«01_k».proof.Proof.Gen.RefInprojIdeal.Read

@[expose] public section

set_option maxRecDepth 65536

noncomputable section

namespace Cert.RefInprojIdeal.Mix

open Cert.RefInprojIdeal Cert.RefInprojIdeal.Read Idealize.ShloMosaic Idealize.ShloMosaic.TcCoe Idealize.SL.Sem
open Cert.Mix

variable (x0 : FVec Ideal S4x4096x2048 .f32) (x1 : FVec Ideal S4x12288 .f32) (x2 : FVec Ideal S2048x3856 .f32)

/-- The modulated rows. -/
theorem h_at (s : Fin 4) (p : Fin 4096) (k : Fin 2048) :
    val_main_v17 (F := Ideal) x0 x1 (ix3 s p k)
      = shifted (fun k => x0 (ix3 s p k)) (fun j => x1 (ix2 s j)) 0 2048 (by decide) (by decide) k := by
  pointwise [val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst]
  unfold shifted
  simp only [Nat.zero_add]

/-- Its product with the weights. -/
theorem proj_at (s : Fin 4) (p : Fin 4096) (j : Fin 3856) :
    val_main_v18 (F := Ideal) x0 x1 x2 (ix3 s p j)
      = ∑ k : Fin 2048, shifted (fun k => x0 (ix3 s p k)) (fun j => x1 (ix2 s j)) 0 2048 (by decide) (by decide) k * x2 (ix2 k j) := by
  rw [val_main_v18_apply]
  refine Finset.sum_congr rfl fun k _ => congrArg₂ (· * ·) (Eq.trans (congrArg _ ?_) (h_at x0 x1 s p k)) (congrArg _ ?_)
  · funext a; match a with | ⟨0, _⟩ => rfl | ⟨1, _⟩ => rfl | ⟨2, _⟩ => rfl
  · funext a; match a with | ⟨0, _⟩ => rfl | ⟨1, _⟩ => rfl

/-- The groups of columns, in their order. -/
theorem group_at (s : Fin 4) (p : Fin 4096) (j : Fin 4096) :
    val_main_v28 (F := Ideal) x0 x1 x2 (ix3 s p j) = grouped (fun l => val_main_v18 (F := Ideal) x0 x1 x2 (ix3 s p l)) j := by
  unfold val_main_v28 val_main_v27 val_main_v26 val_main_v25 val_main_v24 val_main_v23 val_main_v22 val_main_v21 val_main_v20 val_main_v19
  generalize val_main_v18 (F := Ideal) x0 x1 x2 = y
  pointwise
  exact grouped_of_ladder (fun l => y (ix3 s p l)) _ (by pointwise [val_main_cst_0]) j

/-- The result. -/
theorem out_at (n : Fin 16384) (j : Fin 4096) :
    val_main_v29 (F := Ideal) x0 x1 x2 (ix2 n j)
      = projOut (fun n k => x0 (ix3 ⟨n.val / 4096, by omega⟩ ⟨n.val % 4096, by omega⟩ k)) (fun s j => x1 (ix2 s j))
          (fun k j => x2 (ix2 k j)) n j := by
  have hn := n.isLt
  rw [val_main_v29_apply]
  have e : idx_main_v29 (ix2 n j) = ix3 ⟨n.val / 4096, by omega⟩ ⟨n.val % 4096, by omega⟩ j := by
    funext a
    match a with
    | ⟨0, _⟩ => exact Fin.ext (by show (n.val * 4096 + j.val) / 16777216 = n.val / 4096; omega)
    | ⟨1, _⟩ => exact Fin.ext (by show (n.val * 4096 + j.val) / 4096 % 4096 = n.val % 4096; omega)
    | ⟨2, _⟩ => exact Fin.ext (by show (n.val * 4096 + j.val) % 4096 = j.val; omega)
  rw [e, group_at]
  unfold projOut
  refine congrArg (fun f => grouped f j) (funext fun l => ?_)
  exact proj_at x0 x1 x2 _ _ l

end Cert.RefInprojIdeal.Mix
-- ==== Proof.InprojClaim.lean ====
/- The input projection: the kernel's result is its reference's. -/
module

public import proofs.«01_k».proof.Defs
public import proofs.«01_k».proof.Proof.InprojK
public import proofs.«01_k».proof.Proof.InprojRef

@[expose] public section

set_option maxRecDepth 65536

noncomputable section

namespace Cert.Mix

open Idealize.ShloMosaic Idealize.ShloMosaic.TcCoe Idealize.SL.Sem

/-- The two results agree when the arguments do. -/
theorem inproj_same (m : (ℓ : Loc InprojIdeal.nD InprojIdeal.τ InprojIdeal.sig) → Buf (Elt Ideal) ℓ)
    (m' : (ℓ : Loc RefInprojIdeal.nD RefInprojIdeal.τ RefInprojIdeal.sig) → Buf (Elt Ideal) ℓ) (c : Dev InprojIdeal.nD)
    (e0 : m' (c.tc.loc RefInprojIdeal.main_arg0) = m (c.tc.loc InprojIdeal.main_arg0))
    (e1 : m' (c.tc.loc RefInprojIdeal.main_arg1) = m (c.tc.loc InprojIdeal.main_arg1))
    (e2 : m' (c.tc.loc RefInprojIdeal.main_arg2) = m (c.tc.loc InprojIdeal.main_arg2)) :
    RefInprojIdeal.Value.res_main_v29 m' c = (InprojIdeal.Gen.dats m 0 c).arrAt 4 InprojIdeal.cfg0.N := by
  rw [RefInprojIdeal.Read.val_main_v29_eq, InprojIdeal.Mix.final]
  funext i
  rw [e0, e1, e2]
  idx_vars i
  exact RefInprojIdeal.Mix.out_at _ _ _ i0 i1

/-- The kernel's result is the reference's. -/
theorem inproj_claim : algebraic_InprojIdeal_RefInprojIdeal := by
  pair_intro
  · run_from Cert.InprojIdeal.Value.run_blocks m g
  · run_from Cert.RefInprojIdeal.Value.run m' g'
    exact inproj_same m m' c (hagree c).1 (hagree c).2.1 (hagree c).2.2

end Cert.Mix
-- ==== Proof.OutprojK.lean ====
/- What the output projection's kernel leaves in its results. -/
module

public import proofs.«01_k».proof.Proof.ProjSpec
public import proofs.«01_k».proof.Proof.Gen.OutprojIdeal.Value

@[expose] public section

set_option maxRecDepth 65536

noncomputable section

namespace Cert.OutprojIdeal.Mix

open Cert.OutprojIdeal Cert.OutprojIdeal.Gen Idealize.ShloMosaic Idealize.ShloMosaic.TcCoe Idealize.SL.Sem
open Cert.Mix

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val / 16, 0, 2] ∧ win0_4.index t = ![0, 0] ∧ win0_5.index t = ![0, 0]
    ∧ win0_6.index t = ![t.val / 16, 0, 3] ∧ win0_7.index t = ![t.val / 16, 0, 4] ∧ win0_8.index t = ![0, 0]
    ∧ win0_9.index t = ![t.val, 0] ∧ win0_10.index t = ![t.val, 0] ∧ win0_11.index t = ![0, t.val, 0] :=
  (by decide +kernel : ∀ t : Fin grid0.N, _)

/-- The heads' rows. -/
abbrev heads (c : Dev nD) (n : Fin 16384) (k : Fin 2048) : EReal :=
  (show FVec Ideal S16384x2048 .bf16 from m ((c.tc : Thread nD τ).loc main_arg0)) (ix2 n k)
/-- The output weights. -/
abbrev wts (c : Dev nD) (k j : Fin 2048) : EReal :=
  (show FVec Ideal S2048x2048 .f32 from m ((c.tc : Thread nD τ).loc main_arg1)) (ix2 k j)
/-- The input's rows. -/
abbrev rows (c : Dev nD) (n : Fin 16384) (k : Fin 2048) : EReal :=
  (show FVec Ideal S4x4096x2048 .f32 from m ((c.tc : Thread nD τ).loc main_arg2)) (ix3 ⟨n.val / 4096, by omega⟩ ⟨n.val % 4096, by omega⟩ k)
/-- The modulation of each sequence. -/
abbrev modu (c : Dev nD) (s : Fin 4) (j : Fin 12288) : EReal :=
  (show FVec Ideal S4x12288 .f32 from m ((c.tc : Thread nD τ).loc main_arg3)) (ix2 s j)
/-- The normalisation's gain. -/
abbrev gain (c : Dev nD) (j : Fin 2048) : EReal :=
  (show FVec Ideal S2048 .f32 from m ((c.tc : Thread nD τ).loc main_arg4)) (ix1 j)
/-- The normalisation's bias. -/
abbrev bias (c : Dev nD) (j : Fin 2048) : EReal :=
  (show FVec Ideal S2048 .f32 from m ((c.tc : Thread nD τ).loc main_arg5)) (ix1 j)
/-- The query weights. -/
abbrev qwts (c : Dev nD) (k j : Fin 2048) : EReal :=
  (show FVec Ideal S2048x2048 .f32 from m ((c.tc : Thread nD τ).loc main_arg6)) (ix2 k j)

theorem heads_block (c : Dev nD) (t : Fin cfg0.N) (r : Fin 256) (k : Fin 2048) (h) :
    (show FVec Ideal S256x2048 .bf16 from iblk m c 0 t) (ix2 r k) = heads m c ⟨t.val * 256 + r.val, h⟩ k := by
  blk_ext [iblk, V, idx t]

theorem wts_block (c : Dev nD) (t : Fin cfg0.N) (k j : Fin 2048) :
    (show FVec Ideal S2048x2048 .bf16 from iblk m c 1 t) (ix2 k j) = wts m c k j := by
  have e : ((cfg0.win 1).blk t).view.emb (ix2 k j) = ix2 k j := by blk_ext [idx t]
  show V m c main_v2 (((cfg0.win 1).blk t).view.emb (ix2 k j)) = _
  rw [e]
  unfold V
  simp only [hostOps0, List.flatten_cons, List.flatten_nil,
    List.cons_append, List.nil_append, List.append_nil]
  entry_read
  pointwise

theorem qwts_block (c : Dev nD) (t : Fin cfg0.N) (k j : Fin 2048) :
    (show FVec Ideal S2048x2048 .bf16 from iblk m c 8 t) (ix2 k j) = qwts m c k j := by
  have e : ((cfg0.win 8).blk t).view.emb (ix2 k j) = ix2 k j := by blk_ext [idx t]
  show V m c main_v5 (((cfg0.win 8).blk t).view.emb (ix2 k j)) = _
  rw [e]
  unfold V
  simp only [hostOps0, List.flatten_cons, List.flatten_nil,
    List.cons_append, List.nil_append, List.append_nil]
  entry_read
  pointwise

theorem rows_block (c : Dev nD) (t : Fin cfg0.N) (r : Fin 256) (k : Fin 2048) (h) :
    (show FVec Ideal S256x2048 .f32 from iblk m c 2 t) (ix2 r k) = rows m c ⟨t.val * 256 + r.val, h⟩ k := by
  have e : ((cfg0.win 2).blk t).view.emb (ix2 r k) = ix2 ⟨t.val * 256 + r.val, h⟩ k := by blk_ext [idx t]
  show V m c main_v0 (((cfg0.win 2).blk t).view.emb (ix2 r k)) = _
  rw [e]
  unfold V
  simp only [hostOps0, List.flatten_cons, List.flatten_nil,
    List.cons_append, List.nil_append, List.append_nil]
  entry_read
  pointwise

theorem gate_block (c : Dev nD) (t : Fin cfg0.N) (k : Fin 2048) (h) :
    (show FVec Ideal S1x1x2048 .f32 from iblk m c 3 t) (ix3 0 0 k) = modu m c ⟨t.val / 16, h⟩ ⟨4096 + k.val, by omega⟩ := by
  have e : ((cfg0.win 3).blk t).view.emb (ix3 0 0 k) = ix3 ⟨t.val / 16, h⟩ 0 ⟨4096 + k.val, by omega⟩ := by blk_ext [idx t]
  show V m c main_v1 (((cfg0.win 3).blk t).view.emb (ix3 0 0 k)) = _
  rw [e]
  unfold V
  simp only [hostOps0, List.flatten_cons, List.flatten_nil,
    List.cons_append, List.nil_append, List.append_nil]
  entry_read
  pointwise

theorem shift_block (c : Dev nD) (t : Fin cfg0.N) (k : Fin 2048) (h) :
    (show FVec Ideal S1x1x2048 .f32 from iblk m c 6 t) (ix3 0 0 k) = modu m c ⟨t.val / 16, h⟩ ⟨6144 + k.val, by omega⟩ := by
  have e : ((cfg0.win 6).blk t).view.emb (ix3 0 0 k) = ix3 ⟨t.val / 16, h⟩ 0 ⟨6144 + k.val, by omega⟩ := by blk_ext [idx t]
  show V m c main_v1 (((cfg0.win 6).blk t).view.emb (ix3 0 0 k)) = _
  rw [e]
  unfold V
  simp only [hostOps0, List.flatten_cons, List.flatten_nil,
    List.cons_append, List.nil_append, List.append_nil]
  entry_read
  pointwise

theorem scale_block (c : Dev nD) (t : Fin cfg0.N) (k : Fin 2048) (h) :
    (show FVec Ideal S1x1x2048 .f32 from iblk m c 7 t) (ix3 0 0 k) = modu m c ⟨t.val / 16, h⟩ ⟨8192 + k.val, by omega⟩ := by
  have e : ((cfg0.win 7).blk t).view.emb (ix3 0 0 k) = ix3 ⟨t.val / 16, h⟩ 0 ⟨8192 + k.val, by omega⟩ := by blk_ext [idx t]
  show V m c main_v1 (((cfg0.win 7).blk t).view.emb (ix3 0 0 k)) = _
  rw [e]
  unfold V
  simp only [hostOps0, List.flatten_cons, List.flatten_nil,
    List.cons_append, List.nil_append, List.append_nil]
  entry_read
  pointwise

theorem gain_block (c : Dev nD) (t : Fin cfg0.N) (j : Fin 2048) :
    (show FVec Ideal S1x2048 .f32 from iblk m c 4 t) (ix2 0 j) = gain m c j := by
  have e : ((cfg0.win 4).blk t).view.emb (ix2 0 j) = ix2 0 j := by blk_ext [idx t]
  show V m c main_v3 (((cfg0.win 4).blk t).view.emb (ix2 0 j)) = _
  rw [e]
  unfold V
  simp only [hostOps0, List.flatten_cons, List.flatten_nil,
    List.cons_append, List.nil_append, List.append_nil]
  entry_read
  pointwise

theorem bias_block (c : Dev nD) (t : Fin cfg0.N) (j : Fin 2048) :
    (show FVec Ideal S1x2048 .f32 from iblk m c 5 t) (ix2 0 j) = bias m c j := by
  have e : ((cfg0.win 5).blk t).view.emb (ix2 0 j) = ix2 0 j := by blk_ext [idx t]
  show V m c main_v4 (((cfg0.win 5).blk t).view.emb (ix2 0 j)) = _
  rw [e]
  unfold V
  simp only [hostOps0, List.flatten_cons, List.flatten_nil,
    List.cons_append, List.nil_append, List.append_nil]
  entry_read
  pointwise

/-! ## The payloads, row by row -/

/-- The residual sum of a block. -/
def resVec (v0 : Vec Ideal S256x2048 .bf16) (v1 : Vec Ideal S2048x2048 .bf16) (v4 : Vec Ideal S256x2048 .f32) (v8 : Vec Ideal S1x1x2048 .f32) :
    FVec Ideal S256x2048 .f32 :=
  addf (mulf (broadcast S256x2048 (Scalar.ofBits .f32 0x3F9837F0#32)) (shapeCast S256x2048 v4 shapeCasts_S256x2048_S256x2048))
    (mulf (broadcastTo S256x2048 (shapeCast S1x2048 v8 shapeCasts_S1x1x2048_S1x2048) broadcasts_S1x2048_S256x2048)
      (matmul (φ₁ := .bf16) (φ₂ := .bf16) dot_S256x2048_S2048x2048_S256x2048_1_0_0_1_n_n none (v0 : FVec Ideal S256x2048 .bf16)
        (shapeCast S2048x2048 v1 shapeCasts_S2048x2048_S2048x2048 : FVec Ideal S2048x2048 .bf16)
        (constant S256x2048 .f32 0x00000000#32)))

theorem resVec_at (v0 : Vec Ideal S256x2048 .bf16) (v1 : Vec Ideal S2048x2048 .bf16) (v4 : Vec Ideal S256x2048 .f32) (v8 : Vec Ideal S1x1x2048 .f32)
    (r : Fin 256) (j : Fin 2048) : resVec v0 v1 v4 v8 (ix2 r j)
      = Ideal.ofBits FTy.f32 0x3F9837F0#32 * v4 (ix2 r j) + v8 (ix3 0 0 j) * ∑ k : Fin 2048, v0 (ix2 r k) * v1 (ix2 k j) := by
  pointwise [resVec]

/-- The rows' means. -/
def meanVec (z : FVec Ideal S256x2048 .f32) : FVec Ideal S256x1 .f32 :=
  divf (shapeCast S256x1 (multiReduction .add [1] S256 z 0x00000000#32 reduces_S256x2048_S256 (.inl rfl) rfl) shapeCasts_S256_S256x1)
    (broadcast S256x1 (Scalar.ofBits .f32 0x45000000#32))

theorem meanVec_at (z : FVec Ideal S256x2048 .f32) (r : Fin 256) : meanVec z (ix2 r 0) = meanOf (fun j => z (ix2 r j)) := by
  pointwise [meanVec]
  rfl

/-- The rows less their means. -/
def centred (z : FVec Ideal S256x2048 .f32) : FVec Ideal S256x2048 .f32 :=
  subf z (broadcastTo S256x2048 (meanVec z) broadcasts_S256x1_S256x2048)

theorem centred_at (z : FVec Ideal S256x2048 .f32) (r : Fin 256) (j : Fin 2048) :
    centred z (ix2 r j) = z (ix2 r j) - meanOf (fun j => z (ix2 r j)) := by
  rw [← meanVec_at]
  unfold centred
  generalize meanVec z = y
  pointwise

/-- The normalised rows. -/
def normVec (z : FVec Ideal S256x2048 .f32) (g b : Vec Ideal S1x2048 .f32) : FVec Ideal S256x2048 .f32 :=
  addf (mulf (mulf (centred z) (broadcastTo S256x2048 (rsqrt (addf (meanVec (mulf (centred z) (centred z)))
      (broadcast S256x1 (Scalar.ofBits .f32 0x3727C5AC#32)))) broadcasts_S256x1_S256x2048))
    (broadcastTo S256x2048 (shapeCast S1x2048 g shapeCasts_S1x2048_S1x2048) broadcasts_S1x2048_S256x2048))
    (broadcastTo S256x2048 (shapeCast S1x2048 b shapeCasts_S1x2048_S1x2048) broadcasts_S1x2048_S256x2048)

theorem normVec_at (z : FVec Ideal S256x2048 .f32) (g b : Vec Ideal S1x2048 .f32) (r : Fin 256) (j : Fin 2048) :
    normVec z g b (ix2 r j) = lnRow (fun j => z (ix2 r j)) (fun j => g (ix2 0 j)) (fun j => b (ix2 0 j)) j := by
  have e : normVec z g b (ix2 r j) = centred z (ix2 r j)
      * Ideal.rsqrt (meanVec (mulf (centred z) (centred z)) (ix2 r 0) + Ideal.ofBits FTy.f32 0x3727C5AC#32) * g (ix2 0 j) + b (ix2 0 j) := by
    unfold normVec
    generalize meanVec (mulf (centred z) (centred z)) = y
    generalize centred z = x
    pointwise
  rw [e, meanVec_at, centred_at]
  have e2 : (fun j => mulf (centred z) (centred z) (ix2 r j))
      = fun k => (z (ix2 r k) - meanOf (fun j => z (ix2 r j))) * (z (ix2 r k) - meanOf (fun j => z (ix2 r j))) :=
    funext fun k => congrArg₂ (· * ·) (centred_at z r k) (centred_at z r k)
  rw [e2]
  rfl

theorem pay7_eq (v0 : Vec Ideal S256x2048 .bf16) (v1 : Vec Ideal S2048x2048 .bf16) (v4 : Vec Ideal S256x2048 .f32) (v8 : Vec Ideal S1x1x2048 .f32)
    (g b : Vec Ideal S1x2048 .f32) : k0_pay7 (F := Ideal) v0 v1 v4 v8 g b = normVec (resVec v0 v1 v4 v8) g b := by
  unfold k0_pay7 normVec centred meanVec resVec
  rfl

theorem pay8_at (x : FVec Ideal S256x2048 .f32) (v38 v44 : Vec Ideal S1x1x2048 .f32) (r : Fin 256) (j : Fin 2048) :
    k0_pay8 (F := Ideal) x v38 v44 (ix2 r j) = x (ix2 r j) * (1 + v38 (ix3 0 0 j)) + v44 (ix3 0 0 j) := by
  pointwise [k0_pay8]

theorem pay9_at (x : FVec Ideal S256x2048 .f32) (v38 v44 : Vec Ideal S1x1x2048 .f32) (w : Vec Ideal S2048x2048 .bf16) (r : Fin 256) (j : Fin 2048) :
    k0_pay9 (F := Ideal) x v38 v44 w (ix2 r j) = ∑ k : Fin 2048, k0_pay8 (F := Ideal) x v38 v44 (ix2 r k) * w (ix2 k j) := by
  unfold k0_pay9
  generalize k0_pay8 (F := Ideal) x v38 v44 = y
  pointwise

/-! ## A block's rows -/

theorem lnRow_congr {z z' g g' b b' : Fin 2048 → EReal} (hz : ∀ j, z j = z' j) (hg : ∀ j, g j = g' j) (hb : ∀ j, b j = b' j)
    (j : Fin 2048) : lnRow z g b j = lnRow z' g' b' j := by
  rw [funext hz, funext hg, funext hb]

/-- The normalised residual sum of a block. -/
abbrev normBlk (c : Dev nD) (t : Fin cfg0.N) : FVec Ideal S256x2048 .f32 :=
  k0_pay7 (F := Ideal) (iblk m c 0 t) (iblk m c 1 t) (iblk m c 2 t) (iblk m c 3 t) (iblk m c 4 t) (iblk m c 5 t)

theorem seqOf_block (t : Fin cfg0.N) (r : Fin 256) (h) (h') : seqOf ⟨t.val * 256 + r.val, h⟩ = ⟨t.val / 16, h'⟩ :=
  Fin.ext (by show (t.val * 256 + r.val) / 4096 = t.val / 16; omega)

theorem normBlk_at (c : Dev nD) (t : Fin cfg0.N) (r : Fin 256) (j : Fin 2048) (h) :
    normBlk m c t (ix2 r j) = normOut (heads m c) (rows m c) (wts m c) (modu m c) (gain m c) (bias m c) ⟨t.val * 256 + r.val, h⟩ j := by
  have hN : cfg0.N = 64 := N_0
  have ht := t.isLt
  refine (congrFun (pay7_eq _ _ _ _ _ _) _).trans ((normVec_at _ _ _ r j).trans ?_)
  unfold normOut
  refine lnRow_congr (fun j => ?_) (fun j => gain_block m c t j) (fun j => bias_block m c t j) j
  rw [resVec_at, seqOf_block t r h (by omega)]
  unfold resRow
  refine congrArg₂ (· + ·) (congrArg (_ * ·) (rows_block m c t r j h)) (congrArg₂ (· * ·) (gate_block m c t j (by omega)) ?_)
  exact Finset.sum_congr rfl fun k _ => congrArg₂ (· * ·) (heads_block m c t r k h) (wts_block m c t k j)

theorem moduBlk_at (c : Dev nD) (t : Fin cfg0.N) (r : Fin 256) (j : Fin 2048) (h) :
    k0_pay8 (F := Ideal) (normBlk m c t) (iblk m c 7 t) (iblk m c 6 t) (ix2 r j)
      = moduOut (heads m c) (rows m c) (wts m c) (modu m c) (gain m c) (bias m c) ⟨t.val * 256 + r.val, h⟩ j := by
  have hN : cfg0.N = 64 := N_0
  have ht := t.isLt
  rw [pay8_at, normBlk_at m c t r j h]
  unfold moduOut shifted
  rw [seqOf_block t r h (by omega)]
  exact congrArg₂ (· + ·) (congrArg (_ * ·) (congrArg (1 + ·) (scale_block m c t j (by omega)))) (shift_block m c t j (by omega))

/-- The queries of a block. -/
abbrev queryBlk (c : Dev nD) (t : Fin cfg0.N) : FVec Ideal S256x2048 .f32 :=
  k0_pay9 (F := Ideal) (normBlk m c t) (iblk m c 7 t) (iblk m c 6 t) (iblk m c 8 t)

theorem queryBlk_at (c : Dev nD) (t : Fin cfg0.N) (r : Fin 256) (j : Fin 2048) (h) :
    queryBlk m c t (ix2 r j)
      = queryOut (heads m c) (rows m c) (wts m c) (modu m c) (gain m c) (bias m c) (qwts m c) ⟨t.val * 256 + r.val, h⟩ j := by
  refine (pay9_at _ _ _ _ r j).trans ?_
  unfold queryOut
  exact Finset.sum_congr rfl fun k _ => congrArg₂ (· * ·) (moduBlk_at m c t r k h) (qwts_block m c t k j)

/-! ## The results after the run -/

theorem point1 (c : Dev nD) (t : Fin cfg0.N) (y : S256x2048.Idx) :
    out0_9 (F := Ideal) (iblk m c 0 t) (iblk m c 1 t) (iblk m c 2 t) (iblk m c 3 t) (iblk m c 4 t) (iblk m c 5 t) (iblk m c 6 t) (iblk m c 7 t) (iblk m c 8 t) y
      = normOut (heads m c) (rows m c) (wts m c) (modu m c) (gain m c) (bias m c)
          ((((cfg0.win 9).blk t).view.emb y : S16384x2048.Idx) 0) ((((cfg0.win 9).blk t).view.emb y : S16384x2048.Idx) 1) := by
  have hN : cfg0.N = 64 := N_0
  have ht := t.isLt
  idx_vars y
  have e : ((cfg0.win 9).blk t).view.emb (ix2 y0 y1) = ix2 ⟨t.val * 256 + y0.val, by omega⟩ y1 := by blk_ext [idx t]
  rw [e]
  refine Eq.trans ?_ (normBlk_at m c t y0 y1 _)
  unfold_out out0_9
  frame_out

theorem final1 (c : Dev nD) : (dats m 0 c).arrAt 9 cfg0.N
    = (fun i : S16384x2048.Idx => normOut (heads m c) (rows m c) (wts m c) (modu m c) (gain m c) (bias m c) (i 0) (i 1)) := by
  refine (dats m 0 c).arrAt_eq_of_covers 9 _ (by decide +kernel) fun t _ y => ?_
  blk_simp
  rw [after0_9]
  exact point1 m c t y

theorem point2 (c : Dev nD) (t : Fin cfg0.N) (y : S256x2048.Idx) :
    out0_10 (F := Ideal) (iblk m c 0 t) (iblk m c 1 t) (iblk m c 2 t) (iblk m c 3 t) (iblk m c 4 t) (iblk m c 5 t) (iblk m c 6 t) (iblk m c 7 t) (iblk m c 8 t) y
      = moduOut (heads m c) (rows m c) (wts m c) (modu m c) (gain m c) (bias m c)
          ((((cfg0.win 10).blk t).view.emb y : S16384x2048.Idx) 0) ((((cfg0.win 10).blk t).view.emb y : S16384x2048.Idx) 1) := by
  have hN : cfg0.N = 64 := N_0
  have ht := t.isLt
  idx_vars y
  have e : ((cfg0.win 10).blk t).view.emb (ix2 y0 y1) = ix2 ⟨t.val * 256 + y0.val, by omega⟩ y1 := by blk_ext [idx t]
  rw [e]
  refine Eq.trans ?_ (moduBlk_at m c t y0 y1 _)
  unfold_out out0_10
  frame_out

theorem final2 (c : Dev nD) : (dats m 0 c).arrAt 10 cfg0.N
    = (fun i : S16384x2048.Idx => moduOut (heads m c) (rows m c) (wts m c) (modu m c) (gain m c) (bias m c) (i 0) (i 1)) := by
  refine (dats m 0 c).arrAt_eq_of_covers 10 _ (by decide +kernel) fun t _ y => ?_
  blk_simp
  rw [after0_10]
  exact point2 m c t y

/-- The column of a head's lane. -/
def colOf (g : Fin 16) (l : Fin 128) : Fin 2048 := ⟨g.val * 128 + l.val, by omega⟩

theorem point3 (c : Dev nD) (t : Fin cfg0.N) (y : S16x256x128.Idx) :
    out0_11 (F := Ideal) (iblk m c 0 t) (iblk m c 1 t) (iblk m c 2 t) (iblk m c 3 t) (iblk m c 4 t) (iblk m c 5 t) (iblk m c 6 t) (iblk m c 7 t) (iblk m c 8 t) y
      = queryOut (heads m c) (rows m c) (wts m c) (modu m c) (gain m c) (bias m c) (qwts m c) ((((cfg0.win 11).blk t).view.emb y : S16x16384x128.Idx) 1)
          (colOf ((((cfg0.win 11).blk t).view.emb y : S16x16384x128.Idx) 0) ((((cfg0.win 11).blk t).view.emb y : S16x16384x128.Idx) 2)) := by
  have hN : cfg0.N = 64 := N_0
  have ht := t.isLt
  idx_vars y
  have e : ((cfg0.win 11).blk t).view.emb (ix3 y0 y1 y2) = ix3 y0 ⟨t.val * 256 + y1.val, by omega⟩ y2 := by blk_ext [idx t]
  rw [e]
  refine Eq.trans ?_ (queryBlk_at m c t y1 (colOf y0 y2) _)
  unfold_out out0_11
  frame_out
  refine (Value.canon11_eq _ _ _ _ _ _ _ _ _ _).trans ?_
  have ei : Value.ix11_0 (ix3 y0 y1 y2) = ix2 y1 (colOf y0 y2) := funext fun a => match a with
    | ⟨0, _⟩ => rfl
    | ⟨1, _⟩ => rfl
  show queryBlk m c t (Value.ix11_0 (ix3 y0 y1 y2)) = _
  rw [ei]

theorem final3 (c : Dev nD) : (dats m 0 c).arrAt 11 cfg0.N
    = (fun i : S16x16384x128.Idx => queryOut (heads m c) (rows m c) (wts m c) (modu m c) (gain m c) (bias m c) (qwts m c) (i 1) (colOf (i 0) (i 2))) := by
  refine (dats m 0 c).arrAt_eq_of_covers 11 _ (by decide +kernel) fun t _ y => ?_
  blk_simp
  rw [after0_11]
  exact point3 m c t y

end Cert.OutprojIdeal.Mix
-- ==== Proof.OutprojRef.lean ====
/- What the output projection's reference computes. -/
module

public import proofs.«01_k».proof.Proof.ProjSpec
public import proofs.«01_k».proof.Proof.Gen.RefOutprojIdeal.Read

@[expose] public section

set_option maxRecDepth 65536

noncomputable section

namespace Cert.RefOutprojIdeal.Mix

open Cert.RefOutprojIdeal Cert.RefOutprojIdeal.Read Idealize.ShloMosaic Idealize.ShloMosaic.TcCoe Idealize.SL.Sem
open Cert.Mix

variable (x0 : FVec Ideal S16384x2048 .bf16) (x1 : FVec Ideal S2048x2048 .f32) (x2 : FVec Ideal S4x4096x2048 .f32)
  (x3 : FVec Ideal S4x12288 .f32) (x4 x5 : FVec Ideal S2048 .f32) (x6 : FVec Ideal S2048x2048 .f32)

/-- Row `p` of sequence `s`. -/
abbrev rowOf (s : Fin 4) (p : Fin 4096) : Fin 16384 := ⟨s.val * 4096 + p.val, by omega⟩

theorem heads_at (s : Fin 4) (p : Fin 4096) (k : Fin 2048) :
    val_main_v13 (F := Ideal) x0 (ix3 s p k) = x0 (ix2 (rowOf s p) k) := by
  pointwise [val_main_v13, val_main_v12]

theorem prod_at (s : Fin 4) (p : Fin 4096) (j : Fin 2048) :
    val_main_v14 (F := Ideal) x0 x1 (ix3 s p j) = ∑ k : Fin 2048, x0 (ix2 (rowOf s p) k) * x1 (ix2 k j) := by
  rw [val_main_v14_apply]
  refine Finset.sum_congr rfl fun k _ => congrArg₂ (· * ·) (Eq.trans (congrArg _ ?_) (heads_at x0 s p k)) (congrArg _ ?_)
  · funext a; match a with | ⟨0, _⟩ => rfl | ⟨1, _⟩ => rfl | ⟨2, _⟩ => rfl
  · funext a; match a with | ⟨0, _⟩ => rfl | ⟨1, _⟩ => rfl

theorem gate_at (s : Fin 4) (p : Fin 4096) (j : Fin 2048) :
    val_main_v17 (F := Ideal) x3 (ix3 s p j) = x3 (ix2 s ⟨4096 + j.val, by omega⟩) := by
  pointwise [val_main_v17, val_main_v8, val_main_v2]

/-- The residual sum. -/
theorem res_at (s : Fin 4) (p : Fin 4096) (j : Fin 2048) :
    val_main_v19 (F := Ideal) x0 x1 x2 x3 (ix3 s p j)
      = resRow (fun k => x0 (ix2 (rowOf s p) k)) (fun k => x2 (ix3 s p k)) (fun k j => x1 (ix2 k j)) (fun j => x3 (ix2 s j)) j := by
  rw [val_main_v19_apply, val_main_v16_apply, val_main_v18_apply, gate_at, prod_at]
  rfl

/-- The mean of a row. -/
theorem mean_at (s : Fin 4) (p : Fin 4096) :
    val_main_v23 (F := Ideal) x0 x1 x2 x3 (ix3 s p 0)
      = meanOf (fun j => val_main_v19 (F := Ideal) x0 x1 x2 x3 (ix3 s p j)) := by
  unfold val_main_v23 val_main_v22 val_main_v21 val_main_v20
  generalize val_main_v19 (F := Ideal) x0 x1 x2 x3 = y
  pointwise [val_main_cst_0, val_main_cst_1]
  rfl

theorem centred_at (s : Fin 4) (p : Fin 4096) (j : Fin 2048) :
    val_main_v25 (F := Ideal) x0 x1 x2 x3 (ix3 s p j)
      = val_main_v19 (F := Ideal) x0 x1 x2 x3 (ix3 s p j) - meanOf (fun j => val_main_v19 (F := Ideal) x0 x1 x2 x3 (ix3 s p j)) := by
  rw [← mean_at]
  unfold val_main_v25 val_main_v24
  generalize val_main_v19 (F := Ideal) x0 x1 x2 x3 = y
  generalize val_main_v23 (F := Ideal) x0 x1 x2 x3 = z
  pointwise

theorem centred2_at (s : Fin 4) (p : Fin 4096) (j : Fin 2048) :
    val_main_v32 (F := Ideal) x0 x1 x2 x3 (ix3 s p j)
      = val_main_v19 (F := Ideal) x0 x1 x2 x3 (ix3 s p j) - meanOf (fun j => val_main_v19 (F := Ideal) x0 x1 x2 x3 (ix3 s p j)) := by
  rw [← mean_at]
  unfold val_main_v32 val_main_v31
  generalize val_main_v19 (F := Ideal) x0 x1 x2 x3 = y
  generalize val_main_v23 (F := Ideal) x0 x1 x2 x3 = z
  pointwise

/-- The mean of a row's squared deviations. -/
theorem var_at (s : Fin 4) (p : Fin 4096) :
    val_main_v30 (F := Ideal) x0 x1 x2 x3 (ix3 s p 0)
      = meanOf (fun j => val_main_v25 (F := Ideal) x0 x1 x2 x3 (ix3 s p j) * val_main_v25 (F := Ideal) x0 x1 x2 x3 (ix3 s p j)) := by
  unfold val_main_v30 val_main_v29 val_main_v28 val_main_v27 val_main_v26
  generalize val_main_v25 (F := Ideal) x0 x1 x2 x3 = y
  pointwise [val_main_cst_2, val_main_cst_3]
  rfl

theorem scale_at (s : Fin 4) (p : Fin 4096) (j : Fin 2048) :
    val_main_v36 (F := Ideal) x0 x1 x2 x3 (ix3 s p j)
      = Ideal.rsqrt (val_main_v30 (F := Ideal) x0 x1 x2 x3 (ix3 s p 0) + Ideal.ofBits FTy.f32 0x3727C5AC#32) := by
  unfold val_main_v36 val_main_v35 val_main_v34 val_main_v33
  generalize val_main_v30 (F := Ideal) x0 x1 x2 x3 = y
  pointwise [val_main_cst_4]

theorem gain_at (s : Fin 4) (p : Fin 4096) (j : Fin 2048) : val_main_v39 (F := Ideal) x4 (ix3 s p j) = x4 (ix1 j) := by
  pointwise [val_main_v39, val_main_v38]

theorem bias_at (s : Fin 4) (p : Fin 4096) (j : Fin 2048) : val_main_v42 (F := Ideal) x5 (ix3 s p j) = x5 (ix1 j) := by
  pointwise [val_main_v42, val_main_v41]

/-- The normalised residual sum. -/
theorem norm_at (s : Fin 4) (p : Fin 4096) (j : Fin 2048) :
    val_main_v43 (F := Ideal) x0 x1 x2 x3 x4 x5 (ix3 s p j)
      = lnRow (resRow (fun k => x0 (ix2 (rowOf s p) k)) (fun k => x2 (ix3 s p k)) (fun k j => x1 (ix2 k j)) (fun j => x3 (ix2 s j)))
          (fun j => x4 (ix1 j)) (fun j => x5 (ix1 j)) j := by
  have e : (fun j => val_main_v19 (F := Ideal) x0 x1 x2 x3 (ix3 s p j))
      = resRow (fun k => x0 (ix2 (rowOf s p) k)) (fun k => x2 (ix3 s p k)) (fun k j => x1 (ix2 k j)) (fun j => x3 (ix2 s j)) :=
    funext fun j => res_at x0 x1 x2 x3 s p j
  rw [val_main_v43_apply, val_main_v40_apply, val_main_v37_apply, centred2_at, scale_at, var_at, gain_at, bias_at]
  simp only [centred_at, e, res_at]
  rfl

theorem one_scale_at (s : Fin 4) (p : Fin 4096) (j : Fin 2048) :
    val_main_v46 (F := Ideal) x3 (ix3 s p j) = 1 + x3 (ix2 s ⟨8192 + j.val, by omega⟩) := by
  pointwise [val_main_v46, val_main_v45, val_main_v44, val_main_v10, val_main_v4, val_main_cst_5]

theorem shift_at (s : Fin 4) (p : Fin 4096) (j : Fin 2048) :
    val_main_v48 (F := Ideal) x3 (ix3 s p j) = x3 (ix2 s ⟨6144 + j.val, by omega⟩) := by
  pointwise [val_main_v48, val_main_v9, val_main_v3]

/-- It, modulated. -/
theorem modu_at (s : Fin 4) (p : Fin 4096) (j : Fin 2048) :
    val_main_v49 (F := Ideal) x0 x1 x2 x3 x4 x5 (ix3 s p j)
      = shifted (fun j => val_main_v43 (F := Ideal) x0 x1 x2 x3 x4 x5 (ix3 s p j)) (fun j => x3 (ix2 s j)) 6144 8192
          (by decide) (by decide) j := by
  rw [val_main_v49_apply, val_main_v47_apply, one_scale_at, shift_at]
  rfl

/-- The queries. -/
theorem query_at (s : Fin 4) (p : Fin 4096) (j : Fin 2048) :
    val_main_v50 (F := Ideal) x0 x1 x2 x3 x4 x5 x6 (ix3 s p j)
      = ∑ k : Fin 2048, val_main_v49 (F := Ideal) x0 x1 x2 x3 x4 x5 (ix3 s p k) * x6 (ix2 k j) := by
  rw [val_main_v50_apply]
  refine Finset.sum_congr rfl fun k _ => congrArg₂ (· * ·) (congrArg _ ?_) (congrArg _ ?_)
  · funext a; match a with | ⟨0, _⟩ => rfl | ⟨1, _⟩ => rfl | ⟨2, _⟩ => rfl
  · funext a; match a with | ⟨0, _⟩ => rfl | ⟨1, _⟩ => rfl

/-- Row `n`'s sequence and its place there. -/
abbrev placeOf (n : Fin 16384) : Fin 4096 := ⟨n.val % 4096, by omega⟩

theorem rowOf_placeOf (n : Fin 16384) : rowOf (seqOf n) (placeOf n) = n :=
  Fin.ext (by show n.val / 4096 * 4096 + n.val % 4096 = n.val; omega)

/-- The input's rows. -/
abbrev inRows (n : Fin 16384) (k : Fin 2048) : EReal := x2 (ix3 ⟨n.val / 4096, by omega⟩ ⟨n.val % 4096, by omega⟩ k)

theorem norm_row (n : Fin 16384) (j : Fin 2048) :
    val_main_v43 (F := Ideal) x0 x1 x2 x3 x4 x5 (ix3 (seqOf n) (placeOf n) j)
      = normOut (fun n k => x0 (ix2 n k)) (inRows x2) (fun k j => x1 (ix2 k j)) (fun s j => x3 (ix2 s j))
          (fun j => x4 (ix1 j)) (fun j => x5 (ix1 j)) n j := by
  rw [norm_at, rowOf_placeOf]
  rfl

theorem modu_row (n : Fin 16384) (j : Fin 2048) :
    val_main_v49 (F := Ideal) x0 x1 x2 x3 x4 x5 (ix3 (seqOf n) (placeOf n) j)
      = moduOut (fun n k => x0 (ix2 n k)) (inRows x2) (fun k j => x1 (ix2 k j)) (fun s j => x3 (ix2 s j))
          (fun j => x4 (ix1 j)) (fun j => x5 (ix1 j)) n j := by
  rw [modu_at]
  simp only [norm_row]
  rfl

theorem query_row (n : Fin 16384) (j : Fin 2048) :
    val_main_v50 (F := Ideal) x0 x1 x2 x3 x4 x5 x6 (ix3 (seqOf n) (placeOf n) j)
      = queryOut (fun n k => x0 (ix2 n k)) (inRows x2) (fun k j => x1 (ix2 k j)) (fun s j => x3 (ix2 s j))
          (fun j => x4 (ix1 j)) (fun j => x5 (ix1 j)) (fun k j => x6 (ix2 k j)) n j := by
  rw [query_at]
  simp only [modu_row]
  rfl

/-- The first result. -/
theorem out1_at (n : Fin 16384) (j : Fin 2048) :
    val_main_v52 (F := Ideal) x0 x1 x2 x3 x4 x5 (ix2 n j)
      = normOut (fun n k => x0 (ix2 n k)) (inRows x2) (fun k j => x1 (ix2 k j)) (fun s j => x3 (ix2 s j))
          (fun j => x4 (ix1 j)) (fun j => x5 (ix1 j)) n j := by
  rw [← norm_row]
  unfold val_main_v52
  generalize val_main_v43 (F := Ideal) x0 x1 x2 x3 x4 x5 = y
  pointwise
  rfl

/-- The second result. -/
theorem out2_at (n : Fin 16384) (j : Fin 2048) :
    val_main_v53 (F := Ideal) x0 x1 x2 x3 x4 x5 (ix2 n j)
      = moduOut (fun n k => x0 (ix2 n k)) (inRows x2) (fun k j => x1 (ix2 k j)) (fun s j => x3 (ix2 s j))
          (fun j => x4 (ix1 j)) (fun j => x5 (ix1 j)) n j := by
  rw [← modu_row]
  unfold val_main_v53
  generalize val_main_v49 (F := Ideal) x0 x1 x2 x3 x4 x5 = y
  pointwise
  rfl

/-- The third result. -/
theorem out3_at (g : Fin 16) (n : Fin 16384) (l : Fin 128) :
    val_main_v55 (F := Ideal) x0 x1 x2 x3 x4 x5 x6 (ix3 g n l)
      = queryOut (fun n k => x0 (ix2 n k)) (inRows x2) (fun k j => x1 (ix2 k j)) (fun s j => x3 (ix2 s j))
          (fun j => x4 (ix1 j)) (fun j => x5 (ix1 j)) (fun k j => x6 (ix2 k j)) n ⟨g.val * 128 + l.val, by omega⟩ := by
  rw [← query_row]
  unfold val_main_v55 val_main_v54 val_main_v51
  generalize val_main_v50 (F := Ideal) x0 x1 x2 x3 x4 x5 x6 = y
  pointwise
  rfl

end Cert.RefOutprojIdeal.Mix
-- ==== Proof.OutprojClaim.lean ====
/- The output projection: the kernel's results are its reference's. -/
module

public import proofs.«01_k».proof.Defs
public import proofs.«01_k».proof.Proof.OutprojK
public import proofs.«01_k».proof.Proof.OutprojRef

@[expose] public section

set_option maxRecDepth 65536

noncomputable section

namespace Cert.Mix

open Idealize.ShloMosaic Idealize.ShloMosaic.TcCoe Idealize.SL.Sem

/-- The results number 1 agree when the arguments do. -/
theorem outproj_same1 (m : (ℓ : Loc OutprojIdeal.nD OutprojIdeal.τ OutprojIdeal.sig) → Buf (Elt Ideal) ℓ)
    (m' : (ℓ : Loc RefOutprojIdeal.nD RefOutprojIdeal.τ RefOutprojIdeal.sig) → Buf (Elt Ideal) ℓ) (c : Dev OutprojIdeal.nD)
    (e0 : m' (c.tc.loc RefOutprojIdeal.main_arg0) = m (c.tc.loc OutprojIdeal.main_arg0))
    (e1 : m' (c.tc.loc RefOutprojIdeal.main_arg1) = m (c.tc.loc OutprojIdeal.main_arg1))
    (e2 : m' (c.tc.loc RefOutprojIdeal.main_arg2) = m (c.tc.loc OutprojIdeal.main_arg2))
    (e3 : m' (c.tc.loc RefOutprojIdeal.main_arg3) = m (c.tc.loc OutprojIdeal.main_arg3))
    (e4 : m' (c.tc.loc RefOutprojIdeal.main_arg4) = m (c.tc.loc OutprojIdeal.main_arg4))
    (e5 : m' (c.tc.loc RefOutprojIdeal.main_arg5) = m (c.tc.loc OutprojIdeal.main_arg5)) :
    RefOutprojIdeal.Value.res_main_v52 m' c = (OutprojIdeal.Gen.dats m 0 c).arrAt 9 OutprojIdeal.cfg0.N := by
  rw [RefOutprojIdeal.Read.val_main_v52_eq, OutprojIdeal.Mix.final1]
  funext i
  rw [e0, e1, e2, e3, e4, e5]
  idx_vars i
  exact RefOutprojIdeal.Mix.out1_at _ _ _ _ _ _ i0 i1

/-- The results number 2 agree when the arguments do. -/
theorem outproj_same2 (m : (ℓ : Loc OutprojIdeal.nD OutprojIdeal.τ OutprojIdeal.sig) → Buf (Elt Ideal) ℓ)
    (m' : (ℓ : Loc RefOutprojIdeal.nD RefOutprojIdeal.τ RefOutprojIdeal.sig) → Buf (Elt Ideal) ℓ) (c : Dev OutprojIdeal.nD)
    (e0 : m' (c.tc.loc RefOutprojIdeal.main_arg0) = m (c.tc.loc OutprojIdeal.main_arg0))
    (e1 : m' (c.tc.loc RefOutprojIdeal.main_arg1) = m (c.tc.loc OutprojIdeal.main_arg1))
    (e2 : m' (c.tc.loc RefOutprojIdeal.main_arg2) = m (c.tc.loc OutprojIdeal.main_arg2))
    (e3 : m' (c.tc.loc RefOutprojIdeal.main_arg3) = m (c.tc.loc OutprojIdeal.main_arg3))
    (e4 : m' (c.tc.loc RefOutprojIdeal.main_arg4) = m (c.tc.loc OutprojIdeal.main_arg4))
    (e5 : m' (c.tc.loc RefOutprojIdeal.main_arg5) = m (c.tc.loc OutprojIdeal.main_arg5)) :
    RefOutprojIdeal.Value.res_main_v53 m' c = (OutprojIdeal.Gen.dats m 0 c).arrAt 10 OutprojIdeal.cfg0.N := by
  rw [RefOutprojIdeal.Read.val_main_v53_eq, OutprojIdeal.Mix.final2]
  funext i
  rw [e0, e1, e2, e3, e4, e5]
  idx_vars i
  exact RefOutprojIdeal.Mix.out2_at _ _ _ _ _ _ i0 i1

/-- The results number 3 agree when the arguments do. -/
theorem outproj_same3 (m : (ℓ : Loc OutprojIdeal.nD OutprojIdeal.τ OutprojIdeal.sig) → Buf (Elt Ideal) ℓ)
    (m' : (ℓ : Loc RefOutprojIdeal.nD RefOutprojIdeal.τ RefOutprojIdeal.sig) → Buf (Elt Ideal) ℓ) (c : Dev OutprojIdeal.nD)
    (e0 : m' (c.tc.loc RefOutprojIdeal.main_arg0) = m (c.tc.loc OutprojIdeal.main_arg0))
    (e1 : m' (c.tc.loc RefOutprojIdeal.main_arg1) = m (c.tc.loc OutprojIdeal.main_arg1))
    (e2 : m' (c.tc.loc RefOutprojIdeal.main_arg2) = m (c.tc.loc OutprojIdeal.main_arg2))
    (e3 : m' (c.tc.loc RefOutprojIdeal.main_arg3) = m (c.tc.loc OutprojIdeal.main_arg3))
    (e4 : m' (c.tc.loc RefOutprojIdeal.main_arg4) = m (c.tc.loc OutprojIdeal.main_arg4))
    (e5 : m' (c.tc.loc RefOutprojIdeal.main_arg5) = m (c.tc.loc OutprojIdeal.main_arg5))
    (e6 : m' (c.tc.loc RefOutprojIdeal.main_arg6) = m (c.tc.loc OutprojIdeal.main_arg6)) :
    RefOutprojIdeal.Value.res_main_v55 m' c = (OutprojIdeal.Gen.dats m 0 c).arrAt 11 OutprojIdeal.cfg0.N := by
  rw [RefOutprojIdeal.Read.val_main_v55_eq, OutprojIdeal.Mix.final3]
  funext i
  rw [e0, e1, e2, e3, e4, e5, e6]
  idx_vars i
  exact RefOutprojIdeal.Mix.out3_at _ _ _ _ _ _ _ i0 i1 i2

/-- The kernel's results are the reference's. -/
theorem outproj_claim : algebraic_OutprojIdeal_RefOutprojIdeal := by
  pair_intro
  · run_from Cert.OutprojIdeal.Value.run_blocks m g
  · run_from Cert.RefOutprojIdeal.Value.run m' g'
    · exact outproj_same1 m m' c (hagree c).1 (hagree c).2.1 (hagree c).2.2.1 (hagree c).2.2.2.1 (hagree c).2.2.2.2.1
        (hagree c).2.2.2.2.2.1
    · exact outproj_same2 m m' c (hagree c).1 (hagree c).2.1 (hagree c).2.2.1 (hagree c).2.2.2.1 (hagree c).2.2.2.2.1
        (hagree c).2.2.2.2.2.1
    · exact outproj_same3 m m' c (hagree c).1 (hagree c).2.1 (hagree c).2.2.1 (hagree c).2.2.2.1 (hagree c).2.2.2.2.1
        (hagree c).2.2.2.2.2.1 (hagree c).2.2.2.2.2.2

end Cert.Mix
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.RefAttIdeal
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.RefAdaIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.RefInprojIdeal
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.RefOutprojIdeal
public import proofs.«01_k».proof.Proof.Gen.On_att_columns
public import proofs.«01_k».proof.Proof.Gen.KernelIdeal.Value
public import proofs.«01_k».proof.Proof.Gen.RefAttIdeal.Read
public import proofs.«01_k».proof.Proof.Gen.AdaIdeal.Value
public import proofs.«01_k».proof.Proof.Gen.InprojIdeal.Value
public import proofs.«01_k».proof.Proof.Gen.OutprojIdeal.Value
public import proofs.«01_k».proof.Proof.Gen.RefAdaIdeal.Read
public import proofs.«01_k».proof.Proof.Gen.RefInprojIdeal.Read
public import proofs.«01_k».proof.Proof.Gen.RefOutprojIdeal.Read
public import proofs.«01_k».proof.Proof.AttClaim
public import proofs.«01_k».proof.Proof.AdaClaim
public import proofs.«01_k».proof.Proof.InprojClaim
public import proofs.«01_k».proof.Proof.OutprojClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.RefAttIdeal.Gen.facts, Cert.Ada.Gen.facts, Cert.AdaIdeal.Gen.facts, Cert.RefAdaIdeal.Gen.facts, Cert.Inproj.Gen.facts, Cert.InprojIdeal.Gen.facts, Cert.RefInprojIdeal.Gen.facts, Cert.Outproj.Gen.facts, Cert.OutprojIdeal.Gen.facts, Cert.RefOutprojIdeal.Gen.facts, Cert.On_att_columns.Gen.facts, by
  refine ⟨fun m ρ _ => Cert.Kernel.Gen.frame m ρ, fun m ρ _ => Cert.KernelIdeal.Gen.frame m ρ, ?_, fun m ρ _ => Cert.Ada.Gen.frame m ρ, fun m ρ _ => Cert.AdaIdeal.Gen.frame m ρ, ?_,
    fun m ρ _ => Cert.Inproj.Gen.frame m ρ, fun m ρ _ => Cert.InprojIdeal.Gen.frame m ρ, ?_,
    fun m ρ _ => Cert.Outproj.Gen.frame m ρ, fun m ρ _ => Cert.OutprojIdeal.Gen.frame m ρ, ?_,
    trivial, Cert.Mix.att_claim, trivial, Cert.Mix.ada_claim, trivial, Cert.Mix.inproj_claim, trivial, Cert.Mix.outproj_claim⟩
  · intro m ρ _
    exact (θ_run Cert.RefAttIdeal.defs _ _).mono (fun r h => ⟨fun c => (h c).2, sem_eq_zero_of_no_sems (by decide) r.2⟩)
      (Cert.RefAttIdeal.Value.run m ρ)
  · intro m ρ _
    exact (θ_run Cert.RefAdaIdeal.defs _ _).mono (fun r h => ⟨fun c => (h c).2, sem_eq_zero_of_no_sems (by decide) r.2⟩)
      (Cert.RefAdaIdeal.Value.run m ρ)
  · intro m ρ _
    exact (θ_run Cert.RefInprojIdeal.defs _ _).mono (fun r h => ⟨fun c => (h c).2, sem_eq_zero_of_no_sems (by decide) r.2⟩)
      (Cert.RefInprojIdeal.Value.run m ρ)
  · intro m ρ _
    exact (θ_run Cert.RefOutprojIdeal.defs _ _).mono (fun r h => ⟨fun c => (h c).2.2.2, sem_eq_zero_of_no_sems (by decide) r.2⟩)
      (Cert.RefOutprojIdeal.Value.run m ρ)⟩

end Cert.Proof

end
